-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![32, 32, 32]⟩ ⟨3, ![64, 64, 128]⟩ (Layout.meshBlock [2, 2, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![32, 32, 32]⟩ ⟨3, ![64, 64, 128]⟩ (Layout.meshBlock [2, 2, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x32x32 : Shape := ⟨3, ![32, 32, 32]⟩
abbrev S2x1x32x32 : Shape := ⟨4, ![2, 1, 32, 32]⟩
abbrev S2x32x1x32 : Shape := ⟨4, ![2, 32, 1, 32]⟩
abbrev S2x32x32x1 : Shape := ⟨4, ![2, 32, 32, 1]⟩
abbrev S2 : Shape := ⟨1, ![2]⟩
abbrev S_ : Shape := ⟨0, ![]⟩
abbrev S32x32x1 : Shape := ⟨3, ![32, 32, 1]⟩
abbrev S1x32x32x1 : Shape := ⟨4, ![1, 32, 32, 1]⟩
abbrev S1 : Shape := ⟨1, ![1]⟩
abbrev S1x1x32x32 : Shape := ⟨4, ![1, 1, 32, 32]⟩
abbrev S1x32x32 : Shape := ⟨3, ![1, 32, 32]⟩
abbrev S1x32x1x32 : Shape := ⟨4, ![1, 32, 1, 32]⟩
abbrev S32x1x32 : Shape := ⟨3, ![32, 1, 32]⟩
abbrev S31x32x32 : Shape := ⟨3, ![31, 32, 32]⟩
abbrev S32x31x32 : Shape := ⟨3, ![32, 31, 32]⟩
abbrev S32x32x31 : Shape := ⟨3, ![32, 32, 31]⟩

abbrev nBuf : Space → Nat
  | .hbm => 2
  | .vmem => 6
  | .smem => 0
  | _ => 0

abbrev bufTy : (tb : Table) → Fin (tcTables nBuf tb) → BufTy
  | .hbm, ⟨0, _⟩ => ⟨S32x32x32, .f32⟩
  | .hbm, ⟨1, _⟩ => ⟨S32x32x32, .f32⟩
  | .local _ .vmem, ⟨0, _⟩ => ⟨S32x32x32, .f32⟩
  | .local _ .vmem, ⟨1, _⟩ => ⟨S32x32x32, .f32⟩
  | .local _ .vmem, ⟨2, _⟩ => ⟨S2x1x32x32, .f32⟩
  | .local _ .vmem, ⟨3, _⟩ => ⟨S2x32x1x32, .f32⟩
  | .local _ .vmem, ⟨4, _⟩ => ⟨S2x32x32x1, .f32⟩
  | .local _ .vmem, ⟨5, _⟩ => ⟨S2x32x32x1, .f32⟩
  | _, _ => ⟨S32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_5 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_2 v2
  let c8_i32_4 : BitVec 32 := 8#32
  let v13 : BitVec 32 := Scalar.muli v12 c8_i32_4
  let v14 : BitVec 32 := Scalar.addi c0_i32_5 v13
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v15 : BitVec 32 := Scalar.muli v5 c4_i32_6
  let v16 : BitVec 32 := Scalar.addi v14 v15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v17 : BitVec 32 := Scalar.muli v8 c1_i32_7
  let v18 : BitVec 32 := Scalar.addi v16 v17
  v18.toNat
def k0_dev2 (d0 : Dev nD) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v20 : BitVec 32 := Scalar.muli v2 c8_i32_10
  let v21 : BitVec 32 := Scalar.addi c0_i32_11 v20
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_12 : BitVec 32 := 4#32
  let v22 : BitVec 32 := Scalar.muli v19 c4_i32_12
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v24 : BitVec 32 := Scalar.muli v8 c1_i32_13
  let v25 : BitVec 32 := Scalar.addi v23 v24
  v25.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let v26 : BitVec 32 := Scalar.extui v9
  let c0_i32_14 : BitVec 32 := 0#32
  let v27 : BitVec 1 := Scalar.cmpi .ne v26 c0_i32_14
  v27

def k0_dev3 (d0 : Dev nD) : Nat :=
  let c0_i32_127 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_126 : BitVec 32 := 8#32
  let v246 : BitVec 32 := Scalar.muli v2 c8_i32_126
  let v247 : BitVec 32 := Scalar.addi c0_i32_127 v246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_128 : BitVec 32 := 4#32
  let v248 : BitVec 32 := Scalar.muli v5 c4_i32_128
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v245 : BitVec 32 := Scalar.subi v8 c1_i32_124
  let c1_i32_129 : BitVec 32 := 1#32
  let v250 : BitVec 32 := Scalar.muli v245 c1_i32_129
  let v251 : BitVec 32 := Scalar.addi v249 v250
  v251.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let v28 : BitVec 32 := Scalar.extui v10
  let c0_i32_15 : BitVec 32 := 0#32
  let v29 : BitVec 1 := Scalar.cmpi .ne v28 c0_i32_15
  v29

def k0_dev4 (d0 : Dev nD) : Nat :=
  let c0_i32_127 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_126 : BitVec 32 := 8#32
  let v246 : BitVec 32 := Scalar.muli v2 c8_i32_126
  let v247 : BitVec 32 := Scalar.addi c0_i32_127 v246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_128 : BitVec 32 := 4#32
  let v248 : BitVec 32 := Scalar.muli v5 c4_i32_128
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v245 : BitVec 32 := Scalar.addi v8 c1_i32_124
  let c1_i32_129 : BitVec 32 := 1#32
  let v250 : BitVec 32 := Scalar.muli v245 c1_i32_129
  let v251 : BitVec 32 := Scalar.addi v249 v250
  v251.toNat
def k0_amt1 (d0 : Dev nD) : BitVec 32 :=
  let c2_i32_18 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let v34 : BitVec 32 := Scalar.extui v9
  let v35 : BitVec 32 := Scalar.addi c2_i32_18 v34
  let c3_i32 : BitVec 32 := 3#32
  let v10 : BitVec 1 := Scalar.cmpi .slt v8 c3_i32
  let v36 : BitVec 32 := Scalar.extui v10
  let v37 : BitVec 32 := Scalar.addi v35 v36
  v37

def k0_off1 (d0 : Dev nD) (c8_i32 : BitVec 32) : Fin 1 → Nat :=
  let v0 : BitVec 32 := Dev.word d0
  let v1 : BitVec 32 := Scalar.divsi v0 c8_i32
  let c2_i32 : BitVec 32 := 2#32
  let v2 : BitVec 32 := Scalar.remsi v1 c2_i32
  ![v2.toNat]
def k0_off2 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_25 : BitVec 32 := 0#32
  let c0_i32_26 : BitVec 32 := 0#32
  let c0_i32_27 : BitVec 32 := 0#32
  ![v2.toNat, 0, 0, 0]
def k0_off3 (d0 : Dev nD) : Fin 3 → Nat :=
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v38 : BitVec 32 := Scalar.subi c1_i32_19 v2
  let c31_i32 : BitVec 32 := 31#32
  let v39 : BitVec 32 := Scalar.muli v38 c31_i32
  let c0_i32_28 : BitVec 32 := 0#32
  let c0_i32_29 : BitVec 32 := 0#32
  ![v39.toNat, 0, 0]
def k0_dev5 (d0 : Dev nD) : Nat :=
  let c0_i32_22 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.subi c1_i32_20 v2
  let c8_i32_21 : BitVec 32 := 8#32
  let v41 : BitVec 32 := Scalar.muli v40 c8_i32_21
  let v42 : BitVec 32 := Scalar.addi c0_i32_22 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v43 : BitVec 32 := Scalar.muli v5 c4_i32_23
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v45 : BitVec 32 := Scalar.muli v8 c1_i32_24
  let v46 : BitVec 32 := Scalar.addi v44 v45
  v46.toNat
def k0_off4 (d0 : Dev nD) : Fin 4 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_37 : BitVec 32 := 0#32
  let c0_i32_38 : BitVec 32 := 0#32
  let c0_i32_39 : BitVec 32 := 0#32
  ![v5.toNat, 0, 0, 0]
def k0_off5 (d0 : Dev nD) : Fin 3 → Nat :=
  let c0_i32_40 : BitVec 32 := 0#32
  let c1_i32_30 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v54 : BitVec 32 := Scalar.subi c1_i32_30 v5
  let c31_i32_31 : BitVec 32 := 31#32
  let v55 : BitVec 32 := Scalar.muli v54 c31_i32_31
  let c0_i32_41 : BitVec 32 := 0#32
  ![0, v55.toNat, 0]
def k0_dev6 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v57 : BitVec 32 := Scalar.muli v2 c8_i32_33
  let v58 : BitVec 32 := Scalar.addi c0_i32_34 v57
  let c1_i32_32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v56 : BitVec 32 := Scalar.subi c1_i32_32 v5
  let c4_i32_35 : BitVec 32 := 4#32
  let v59 : BitVec 32 := Scalar.muli v56 c4_i32_35
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v61 : BitVec 32 := Scalar.muli v8 c1_i32_36
  let v62 : BitVec 32 := Scalar.addi v60 v61
  v62.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .sgt v8 c0_i32
  let v70 : BitVec 32 := Scalar.extui v9
  let c0_i32_42 : BitVec 32 := 0#32
  let v71 : BitVec 1 := Scalar.cmpi .ne v70 c0_i32_42
  v71

def k0_dev7 (d0 : Dev nD) : Nat :=
  let c0_i32_129 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_128 : BitVec 32 := 8#32
  let v246 : BitVec 32 := Scalar.muli v2 c8_i32_128
  let v247 : BitVec 32 := Scalar.addi c0_i32_129 v246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_130 : BitVec 32 := 4#32
  let v248 : BitVec 32 := Scalar.muli v5 c4_i32_130
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v245 : BitVec 32 := Scalar.addi v8 c_m1_i32
  let c1_i32_131 : BitVec 32 := 1#32
  let v250 : BitVec 32 := Scalar.muli v245 c1_i32_131
  let v251 : BitVec 32 := Scalar.addi v249 v250
  v251.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v10 : BitVec 1 := Scalar.cmpi .slt v8 c3_i32
  let v72 : BitVec 32 := Scalar.extui v10
  let c0_i32_43 : BitVec 32 := 0#32
  let v73 : BitVec 1 := Scalar.cmpi .ne v72 c0_i32_43
  v73

def k0_dev8 (d0 : Dev nD) : Nat :=
  let c0_i32_130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_129 : BitVec 32 := 8#32
  let v246 : BitVec 32 := Scalar.muli v2 c8_i32_129
  let v247 : BitVec 32 := Scalar.addi c0_i32_130 v246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_131 : BitVec 32 := 4#32
  let v248 : BitVec 32 := Scalar.muli v5 c4_i32_131
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v245 : BitVec 32 := Scalar.addi v8 c1_i32_124
  let c1_i32_132 : BitVec 32 := 1#32
  let v250 : BitVec 32 := Scalar.muli v245 c1_i32_132
  let v251 : BitVec 32 := Scalar.addi v249 v250
  v251.toNat
def k0_off6 (d0 : Dev nD) (c8_i32 : BitVec 32) : Fin 1 → Nat :=
  let c1_i32_77 : BitVec 32 := 1#32
  let v0 : BitVec 32 := Dev.word d0
  let v1 : BitVec 32 := Scalar.divsi v0 c8_i32
  let c2_i32 : BitVec 32 := 2#32
  let v2 : BitVec 32 := Scalar.remsi v1 c2_i32
  let v188 : BitVec 32 := Scalar.subi c1_i32_77 v2
  ![v188.toNat]
def k0_off7 (d0 : Dev nD) : Fin 4 → Nat :=
  let c1_i32_77 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v188 : BitVec 32 := Scalar.subi c1_i32_77 v2
  let c0_i32_82 : BitVec 32 := 0#32
  let c0_i32_83 : BitVec 32 := 0#32
  let c0_i32_84 : BitVec 32 := 0#32
  ![v188.toNat, 0, 0, 0]
def k0_off8 (d0 : Dev nD) : Fin 4 → Nat :=
  let c1_i32_92 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v207 : BitVec 32 := Scalar.subi c1_i32_92 v5
  let c0_i32_99 : BitVec 32 := 0#32
  let c0_i32_100 : BitVec 32 := 0#32
  let c0_i32_101 : BitVec 32 := 0#32
  ![v207.toNat, 0, 0, 0]
abbrev stage0_0 : Fin 1 → Memref sig .tc .vmem S32x32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x64x128 : Shape := ⟨3, ![64, 64, 128]⟩
abbrev S62x62x126 : Shape := ⟨3, ![62, 62, 126]⟩
abbrev S_ : Shape := ⟨0, ![]⟩
abbrev S1 : Shape := ⟨1, ![1]⟩
abbrev S3 : Shape := ⟨1, ![3]⟩

abbrev nBuf : Space → Nat
  | .hbm => 27
  | .vmem => 0
  | .smem => 0
  | _ => 0

abbrev bufTy : (tb : Table) → Fin (tcTables nBuf tb) → BufTy
  | .hbm, ⟨0, _⟩ => ⟨S64x64x128, .f32⟩
  | .hbm, ⟨1, _⟩ => ⟨S62x62x126, .f32⟩
  | .hbm, ⟨2, _⟩ => ⟨S62x62x126, .f32⟩
  | .hbm, ⟨3, _⟩ => ⟨S62x62x126, .f32⟩
  | .hbm, ⟨4, _⟩ => ⟨S62x62x126, .f32⟩
  | .hbm, ⟨5, _⟩ => ⟨S62x62x126, .f32⟩
  | .hbm, ⟨6, _⟩ => ⟨S62x62x126, .f32⟩
  | .hbm, ⟨7, _⟩ => ⟨S62x62x126, .f32⟩
  | .hbm, ⟨8, _⟩ => ⟨S62x62x126, .f32⟩
  | .hbm, ⟨9, _⟩ => ⟨S62x62x126, .f32⟩
  | .hbm, ⟨10, _⟩ => ⟨S62x62x126, .f32⟩
  | .hbm, ⟨11, _⟩ => ⟨S62x62x126, .f32⟩
  | .hbm, ⟨12, _⟩ => ⟨S62x62x126, .f32⟩
  | .hbm, ⟨13, _⟩ => ⟨S_, .f32⟩
  | .hbm, ⟨14, _⟩ => ⟨S62x62x126, .f32⟩
  | .hbm, ⟨15, _⟩ => ⟨S62x62x126, .f32⟩
  | .hbm, ⟨16, _⟩ => ⟨S62x62x126, .f32⟩
  | .hbm, ⟨17, _⟩ => ⟨S_, .f32⟩
  | .hbm, ⟨18, _⟩ => ⟨S64x64x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S64x64x128, .f32⟩
  | _, _ => ⟨S64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Places.lean ====
/-
The mesh of sixteen devices and the semaphores each of them uses.

A device `c` sits at `(mx, my, mz) = (c / 8, (c / 4) mod 2, c mod 4)` of the 2 x 2 x 4 mesh.  It has four sides,
numbered 0 to 3: the device across x, the device across y, the device below along z, the device above along z.
The x and y neighbours always exist; a z neighbour exists (`Has`) unless the device is at that end of the mesh.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Halo

open Cert.KernelIdeal Cert.KernelIdeal.Gen
open Idealize.ShloMosaic
open Idealize.ShloMosaic.TcCoe
open Idealize.SL.Sem

/-! ## Places and neighbours -/

/-- The place along x of a device. -/
def mx (c : Dev nD) : ℕ := c.val / 8
/-- The place along y of a device. -/
def my (c : Dev nD) : ℕ := c.val / 4 % 2
/-- The place along z of a device. -/
def mz (c : Dev nD) : ℕ := c.val % 4

/-- The device on side `d` of `c`; along z the ends are joined, so that `nbr` is a permutation for every side. -/
def nbr (c : Dev nD) (d : Fin 4) : Dev nD :=
  match d with
  | 0 => ⟨(c.val + 8) % 16, Nat.mod_lt _ (by decide)⟩
  | 1 => ⟨c.val / 8 * 8 + (c.val + 4) % 8, by have := c.isLt; simp only [nD] at *; omega⟩
  | 2 => ⟨c.val / 4 * 4 + (c.val + 3) % 4, by have := c.isLt; simp only [nD] at *; omega⟩
  | 3 => ⟨c.val / 4 * 4 + (c.val + 1) % 4, by have := c.isLt; simp only [nD] at *; omega⟩

/-- The side of a neighbour on which the device itself lies. -/
def opp (d : Fin 4) : Fin 4 :=
  match d with
  | 0 => 0
  | 1 => 1
  | 2 => 3
  | 3 => 2

/-- Whether `c` has a neighbour of the mesh on side `d`. -/
def Has (c : Dev nD) (d : Fin 4) : Prop :=
  match d with
  | 0 => True
  | 1 => True
  | 2 => 0 < mz c
  | 3 => mz c < 3

instance (c : Dev nD) (d : Fin 4) : Decidable (Has c d) := by
  unfold Has; split <;> infer_instance

/-- Going to a neighbour and back. -/
theorem nbr_nbr : ∀ (c : Dev nD) (d : Fin 4), nbr (nbr c d) (opp d) = c := by decide
/-- The side opposite to the opposite side. -/
theorem opp_opp : ∀ d : Fin 4, opp (opp d) = d := by decide
/-- A neighbour exists on one side exactly when the device is that neighbour's neighbour on the other. -/
theorem has_nbr : ∀ (c : Dev nD) (d : Fin 4), Has (nbr c d) (opp d) ↔ Has c d := by decide

/-- The permutation of the devices that goes to side `d`. -/
def nbrE (d : Fin 4) : Dev nD ≃ Dev nD where
  toFun c := nbr c d
  invFun c := nbr c (opp d)
  left_inv c := nbr_nbr c d
  right_inv c := by have h := nbr_nbr c (opp d); rwa [opp_opp] at h

/-! ## The devices the kernel addresses -/

theorem dev1_eq : ∀ c : Dev nD, (⟨k0_dev1 c, k0_dev1_lt c⟩ : Dev nD) = nbr c 0 := by decide +kernel
theorem dev2_eq : ∀ c : Dev nD, (⟨k0_dev2 c, k0_dev2_lt c⟩ : Dev nD) = nbr c 1 := by decide +kernel
theorem dev3_eq : ∀ (c : Dev nD) (h : k0_cond1 c = 1#1), (⟨k0_dev3 c, k0_dev3_lt c h⟩ : Dev nD) = nbr c 2 := by decide +kernel
theorem dev4_eq : ∀ (c : Dev nD) (h : k0_cond2 c = 1#1), (⟨k0_dev4 c, k0_dev4_lt c h⟩ : Dev nD) = nbr c 3 := by decide +kernel
theorem dev5_eq : ∀ c : Dev nD, (⟨k0_dev5 c, k0_dev5_lt c⟩ : Dev nD) = nbr c 0 := by decide +kernel
theorem dev6_eq : ∀ c : Dev nD, (⟨k0_dev6 c, k0_dev6_lt c⟩ : Dev nD) = nbr c 1 := by decide +kernel
theorem dev7_eq : ∀ (c : Dev nD) (h : k0_cond5 c = 1#1), (⟨k0_dev7 c, k0_dev7_lt c h⟩ : Dev nD) = nbr c 2 := by decide +kernel
theorem dev8_eq : ∀ (c : Dev nD) (h : k0_cond6 c = 1#1), (⟨k0_dev8 c, k0_dev8_lt c h⟩ : Dev nD) = nbr c 3 := by decide +kernel

theorem cond1_iff : ∀ c : Dev nD, k0_cond1 c = 1#1 ↔ Has c 2 := by decide +kernel
theorem cond2_iff : ∀ c : Dev nD, k0_cond2 c = 1#1 ↔ Has c 3 := by decide +kernel
theorem cond5_iff : ∀ c : Dev nD, k0_cond5 c = 1#1 ↔ Has c 2 := by decide +kernel
theorem cond6_iff : ∀ c : Dev nD, k0_cond6 c = 1#1 ↔ Has c 3 := by decide +kernel

/-! ## Semaphores -/

/-- The barrier semaphore. -/
abbrev barS : Sem sig := (SemArray.scalar (sig.barrier 0 rfl) : Sems sig S_).sem

/-- The semaphore of device `c` that the copy to side `d` raises once its source has been read. -/
def sendS (c : Dev nD) (d : Fin 4) : DmaSem sig :=
  match d with
  | 0 => ⟨2 + c.val / 8, by have := c.isLt; simp only [nD] at *; show _ < 14; omega⟩
  | 1 => ⟨6 + c.val / 4 % 2, by show _ < 14; omega⟩
  | 2 => ⟨10, by decide⟩
  | 3 => ⟨11, by decide⟩

/-- The semaphore of device `c` that the copy arriving from side `d` raises. -/
def recvS (c : Dev nD) (d : Fin 4) : DmaSem sig :=
  match d with
  | 0 => ⟨4 + (1 - c.val / 8), by show _ < 14; omega⟩
  | 1 => ⟨8 + (1 - c.val / 4 % 2), by show _ < 14; omega⟩
  | 2 => ⟨12, by decide⟩
  | 3 => ⟨13, by decide⟩

theorem sem_sx : ∀ c : Dev nD, (((cc0_scratch4 : DmaSems sig S2).slice (Rect.unit (s := S2) (k0_off1 c 8#32) S1.size (k0_off1_inb c 1))).squeeze S_ squeezes_S1_S_).sem = sendS c 0 := by decide +kernel
theorem sem_rx : ∀ c : Dev nD, (((cc0_scratch5 : DmaSems sig S2).slice (Rect.unit (s := S2) (k0_off1 c 8#32) S1.size (k0_off1_inb c 1))).squeeze S_ squeezes_S1_S_).sem = recvS (nbr c 0) 0 := by decide +kernel
theorem sem_sy : ∀ c : Dev nD, (((cc0_scratch6 : DmaSems sig S2).slice (Rect.unit (s := S2) (k0_off1 c 4#32) S1.size (k0_off1_inb c 0))).squeeze S_ squeezes_S1_S_).sem = sendS c 1 := by decide +kernel
theorem sem_ry : ∀ c : Dev nD, (((cc0_scratch7 : DmaSems sig S2).slice (Rect.unit (s := S2) (k0_off1 c 4#32) S1.size (k0_off1_inb c 0))).squeeze S_ squeezes_S1_S_).sem = recvS (nbr c 1) 1 := by decide +kernel
theorem sem_wx : ∀ c : Dev nD, (((cc0_scratch5 : DmaSems sig S2).slice (Rect.unit (s := S2) (k0_off6 c 8#32) S1.size (k0_off6_inb c 1))).squeeze S_ squeezes_S1_S_).sem = recvS c 0 := by decide +kernel
theorem sem_wy : ∀ c : Dev nD, (((cc0_scratch7 : DmaSems sig S2).slice (Rect.unit (s := S2) (k0_off6 c 4#32) S1.size (k0_off6_inb c 0))).squeeze S_ squeezes_S1_S_).sem = recvS c 1 := by decide +kernel
theorem sem_sz0 : ∀ c : Dev nD, (((cc0_scratch8 : DmaSems sig S2).slice (Rect.unit (s := S2) ![0] S1.size inb_S2_S1_0)).squeeze S_ squeezes_S1_S_).sem = sendS c 2 := by decide +kernel
theorem sem_sz1 : ∀ c : Dev nD, (((cc0_scratch8 : DmaSems sig S2).slice (Rect.unit (s := S2) ![1] S1.size inb_S2_S1_1)).squeeze S_ squeezes_S1_S_).sem = sendS c 3 := by decide +kernel
theorem sem_rz0 : ∀ c : Dev nD, (((cc0_scratch9 : DmaSems sig S2).slice (Rect.unit (s := S2) ![0] S1.size inb_S2_S1_0)).squeeze S_ squeezes_S1_S_).sem = recvS c 2 := by decide +kernel
theorem sem_rz1 : ∀ c : Dev nD, (((cc0_scratch9 : DmaSems sig S2).slice (Rect.unit (s := S2) ![1] S1.size inb_S2_S1_1)).squeeze S_ squeezes_S1_S_).sem = recvS c 3 := by decide +kernel

end Cert.Halo

end
-- ==== Proof.Schedule.lean ====
/-
The agreement between the devices: which semaphore is raised by whom, by how much, and what comes with it.

Every device `c` has one barrier semaphore, one sending and one receiving semaphore for each of its four sides.
* The barrier of `c` is raised by one by each existing neighbour; the neighbour on side `d` hands over, with that
  signal, the part of its own landing buffer into which `c` is going to copy.
* The receiving semaphore of `c` for side `d` is raised when the copy of the neighbour on that side has landed; it hands
  over the landing part holding the neighbour's face.
* The sending semaphore of `c` for side `d` is raised when the source of `c`'s own copy to that side has been read; it
  hands the source back.
Each of these happens once, in round 0.
-/
module

public import proofs.«01_k».proof.Proof.Places
public import Idealize.ShloMosaic.Lib.ValueLayout

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## Ghost state: the pipeline's rounds and the halo exchange's -/

/-- The rounds of the halo exchange; a duty is named by the side it belongs to. -/
abbrev UH : Type := URounds (GSem nD τ sig) (Fin 4)
/-- All ghost state. -/
abbrev UU : Type := UR sig nD τ × UH

local notation "𝕄" => MT nD τ sig Unit (Elt F) ℕ UU ℕ

/-- Where the pipeline's rounds live. -/
abbrev EP : Emb (UR sig nD τ) (MT nD τ sig Unit (Elt F) ℕ UU ℕ) := embL
/-- Where the exchange's rounds live. -/
abbrev EH : Emb UH (MT nD τ sig Unit (Elt F) ℕ UU ℕ) := embR

variable (m : (ℓ : Loc nD τ sig) → Buf (Elt F) ℓ) (ρ : Dev nD → PrngReg)

/-- The memory at the start: any contents, all counters at zero. -/
def s₀ : MemSt nD τ sig (Elt F) := ⟨m, fun _ => 0, ρ⟩

/-! ## Buffers and their parts -/

/-- The elements whose leading coordinate is `k`. -/
def slot {n : ℕ} (d : Fin (n + 1) → ℕ) (k : ℕ) : Finset (⟨n + 1, d⟩ : Shape).Idx :=
  Finset.univ.filter fun i => (i 0).val = k

/-- The face of a block that goes across x, and the one that goes across y. -/
def faceX (c : Dev nD) : Finset S32x32x32.Idx := Finset.univ.filter fun i => (i 0).val = 31 - 31 * mx c
def faceY (c : Dev nD) : Finset S32x32x32.Idx := Finset.univ.filter fun i => (i 1).val = 31 - 31 * my c

/-- The buffers of device `c`: the block, the result block, the three landing buffers, the two packed z faces. -/
abbrev uL (c : Dev nD) : Loc nD τ sig := (c : Thread nD τ).loc cc0_stg0_0
abbrev oL (c : Dev nD) : Loc nD τ sig := (c : Thread nD τ).loc cc0_stg1_0
abbrev hxL (c : Dev nD) : Loc nD τ sig := (c : Thread nD τ).loc cc0_scratch0
abbrev hyL (c : Dev nD) : Loc nD τ sig := (c : Thread nD τ).loc cc0_scratch1
abbrev hzL (c : Dev nD) : Loc nD τ sig := (c : Thread nD τ).loc cc0_scratch2
abbrev szL (c : Dev nD) : Loc nD τ sig := (c : Thread nD τ).loc cc0_scratch3

/-- The shares of the block lent to the x copy, to the y copy, and kept for loads. -/
abbrev qx : PosShare TreeShare := fullShare.left.left
abbrev qy : PosShare TreeShare := fullShare.left.right
abbrev ql : PosShare TreeShare := fullShare.right

/-! ## Contents -/

/-- The block of device `c`. -/
def X (c : Dev nD) : (cc0_stg0_0 : Ref sig .tc).ty.Contents (Elt F) :=
  (win0_0.blk (0 : Fin 1)).view.read (Elt F) ((s₀ m ρ).mem ((c : Thread nD τ).loc main_arg0))

/-- The last coordinate `31` or the first `0`, as a coordinate of a block. -/
def edge (k : ℕ) : Fin 32 := ⟨31 - 31 * k, by omega⟩

/-- The x neighbour's face, whatever the leading coordinate. -/
def HX (c : Dev nD) : (cc0_scratch0 : Ref sig .tc).ty.Contents (Elt F) :=
  fun i => X m ρ (nbr c 0) (ix3 (edge (mx (nbr c 0))) (i 2) (i 3))
/-- The y neighbour's face. -/
def HY (c : Dev nD) : (cc0_scratch1 : Ref sig .tc).ty.Contents (Elt F) :=
  fun i => X m ρ (nbr c 1) (ix3 (i 1) (edge (my (nbr c 1))) (i 3))
/-- The two z neighbours' faces: slot 0 from below, slot 1 from above. -/
def HZ (c : Dev nD) : (cc0_scratch2 : Ref sig .tc).ty.Contents (Elt F) :=
  fun i => if (i 0).val = 0 then X m ρ (nbr c 2) (ix3 (i 1) (i 2) (edge 0)) else X m ρ (nbr c 3) (ix3 (i 1) (i 2) (edge 1))
/-- The device's own two z faces, packed: slot 0 the first, slot 1 the last. -/
def SZ (c : Dev nD) : (cc0_scratch3 : Ref sig .tc).ty.Contents (Elt F) :=
  fun i => if (i 0).val = 0 then X m ρ c (ix3 (i 1) (i 2) (edge 1)) else X m ρ c (ix3 (i 1) (i 2) (edge 0))

/-! ## What the semaphores hand over -/

/-- The part of `c`'s landing buffers into which the neighbour on side `d` copies, at any contents. -/
def land (c : Dev nD) (d : Fin 4) : sProp 𝕄 :=
  match d with
  | 0 => iprop(∃ f, hxL c ↦[slot _ (1 - mx c)]{fullShare} f)
  | 1 => iprop(∃ f, hyL c ↦[slot _ (1 - my c)]{fullShare} f)
  | 2 => iprop(∃ f, hzL c ↦[slot _ 0]{fullShare} f)
  | 3 => iprop(∃ f, hzL c ↦[slot _ 1]{fullShare} f)

/-- The same part holding the neighbour's face. -/
def recvPay (c : Dev nD) (d : Fin 4) : sProp 𝕄 :=
  match d with
  | 0 => iprop(hxL c ↦[slot _ (1 - mx c)]{fullShare} HX m ρ c)
  | 1 => iprop(hyL c ↦[slot _ (1 - my c)]{fullShare} HY m ρ c)
  | 2 => iprop(hzL c ↦[slot _ 0]{fullShare} HZ m ρ c)
  | 3 => iprop(hzL c ↦[slot _ 1]{fullShare} HZ m ρ c)

/-- The source of `c`'s copy to side `d`. -/
def sendPay (c : Dev nD) (d : Fin 4) : sProp 𝕄 :=
  match d with
  | 0 => iprop(uL c ↦[faceX c]{qx} X m ρ c)
  | 1 => iprop(uL c ↦[faceY c]{qy} X m ρ c)
  | 2 => iprop(szL c ↦[slot _ 0]{fullShare} SZ m ρ c)
  | 3 => iprop(szL c ↦[slot _ 1]{fullShare} SZ m ρ c)

instance land_storable (c : Dev nD) (d : Fin 4) : BI.Storable (upEmb : UEmb _ 𝕄) (land (F := F) c d) := by
  unfold land; split <;> infer_instance
instance recvPay_storable (c : Dev nD) (d : Fin 4) : BI.Storable (upEmb : UEmb _ 𝕄) (recvPay m ρ c d) := by
  unfold recvPay; split <;> infer_instance
instance sendPay_storable (c : Dev nD) (d : Fin 4) : BI.Storable (upEmb : UEmb _ 𝕄) (sendPay m ρ c d) := by
  unfold sendPay; split <;> infer_instance

/-! ## The cells -/

abbrev barC (c : Dev nD) : GSem nD τ sig := ((c : Thread nD τ), .reg barS)
abbrev sendC (c : Dev nD) (d : Fin 4) : GSem nD τ sig := ((c : Thread nD τ), .dma (sendS c d))
abbrev recvC (c : Dev nD) (d : Fin 4) : GSem nD τ sig := ((c : Thread nD τ), .dma (recvS c d))

/-- Sending and receiving semaphores are different, and distinct sides have distinct ones. -/
theorem sendS_ne_recvS : ∀ (c : Dev nD) (d e : Fin 4), sendS c d ≠ recvS c e := by decide
theorem sendS_inj : ∀ (c : Dev nD) (d e : Fin 4), sendS c d = sendS c e → d = e := by decide
theorem recvS_inj : ∀ (c : Dev nD) (d e : Fin 4), recvS c d = recvS c e → d = e := by decide

/-- The units one copy to side `d` raises a semaphore by. -/
def units (d : Fin 4) : ℕ :=
  match d with
  | 0 => (((Memref.whole cc0_scratch0).slice (Rect.unit (s := S2x1x32x32) ![0, 0, 0, 0] S1x1x32x32.size (by decide)) (fun _ => rfl)).squeeze S1x32x32 squeezes_S1x1x32x32_S1x32x32 : Memref sig .tc .vmem S1x32x32 .f32).view.dmaCredit
  | 1 => (((Memref.whole cc0_scratch1).slice (Rect.unit (s := S2x32x1x32) ![0, 0, 0, 0] S1x32x1x32.size (by decide)) (fun _ => rfl)).squeeze S32x1x32 squeezes_S1x32x1x32_S32x1x32 : Memref sig .tc .vmem S32x1x32 .f32).view.dmaCredit
  | 2 => (((Memref.whole cc0_scratch2).slice (Rect.unit (s := S2x32x32x1) ![0, 0, 0, 0] S1x32x32x1.size (by decide)) (fun _ => rfl)).squeeze S32x32x1 squeezes_S1x32x32x1_S32x32x1 : Memref sig .tc .vmem S32x32x1 .f32).view.dmaCredit
  | 3 => (((Memref.whole cc0_scratch2).slice (Rect.unit (s := S2x32x32x1) ![0, 0, 0, 0] S1x32x32x1.size (by decide)) (fun _ => rfl)).squeeze S32x32x1 squeezes_S1x32x32x1_S32x32x1 : Memref sig .tc .vmem S32x32x1 .f32).view.dmaCredit

theorem units_pos (d : Fin 4) : 0 < units d := by
  unfold units; split <;> exact View.dmaCredit_pos _ (by decide)
theorem units_opp (d : Fin 4) : units (opp d) = units d := by
  fin_cases d <;> rfl

/-- Whether cell `g` of a device has a duty of side `d`. -/
abbrev IsSide (g : GSem nD τ sig) (d : Fin 4) : Prop :=
  g.1.2 = .tc ∧ Has g.1.1 d ∧ (g.2 = .reg barS ∨ g.2 = .dma (sendS g.1.1 d) ∨ g.2 = .dma (recvS g.1.1 d))

/-- What one duty raises its cell by. -/
def amt (g : GSem nD τ sig) (d : Fin 4) : ℕ := if g.2 = .reg barS then 1 else units d

/-- What comes with one duty of a cell. -/
def pay (g : GSem nD τ sig) (d : Fin 4) : sProp 𝕄 :=
  if g.2 = .reg barS then land (nbr g.1.1 d) (opp d)
  else if g.2 = .dma (sendS g.1.1 d) then sendPay m ρ g.1.1 d
  else recvPay m ρ g.1.1 d

theorem amt_pos (g : GSem nD τ sig) (d : Fin 4) : 0 < amt g d := by
  unfold amt; split
  · exact Nat.one_pos
  · exact units_pos d

instance pay_storable (g : GSem nD τ sig) (d : Fin 4) : BI.Storable (upEmb : UEmb _ 𝕄) (pay m ρ g d) := by
  unfold pay; (repeat' split) <;> infer_instance

/-- The agreement: one round. -/
def sched : Rounds.Schedule (GSem nD τ sig) (Fin 4) 𝕄 where
  duties g r := if r = 0 then Finset.univ.filter (IsSide g) else ∅
  unitless _ := False
  amount g _ d := amt g d
  payload g _ d := pay m ρ g d
  amount_pos g _ d _ := amt_pos g d

instance sched_storable (g : GSem nD τ sig) (r : ℕ) (d : Fin 4) :
    BI.Storable (upEmb : UEmb _ 𝕄) ((sched (F := F) m ρ).payload g r d) :=
  inferInstanceAs (BI.Storable (upEmb : UEmb _ 𝕄) (pay m ρ g d))

/-! ## The agreement read off -/

theorem dma_ne_bar (s : DmaSem sig) : (SemLoc.dma s : SemLoc sig) ≠ .reg barS := fun h => by cases h

theorem duties_later (g : GSem nD τ sig) : ∀ r, 1 ≤ r → (sched (F := F) m ρ).duties g r = ∅ :=
  fun r hr => if_neg (by omega)

theorem duties_bar (c : Dev nD) : (sched (F := F) m ρ).duties (barC c) 0 = Finset.univ.filter (Has c) := by
  unfold sched; dsimp only
  rw [if_pos rfl]
  refine Finset.filter_congr fun d _ => ?_
  exact ⟨fun h => h.2.1, fun h => ⟨rfl, h, .inl rfl⟩⟩

theorem duties_send (c : Dev nD) (d : Fin 4) (h : Has c d) : (sched (F := F) m ρ).duties (sendC c d) 0 = {d} := by
  unfold sched; dsimp only
  rw [if_pos rfl]
  refine Finset.ext fun e => ?_
  rw [Finset.mem_filter, Finset.mem_singleton]
  constructor
  · rintro ⟨-, -, -, h1 | h1 | h1⟩
    · exact absurd h1 (dma_ne_bar _)
    · exact (sendS_inj c d e (SemLoc.dma.inj h1)).symm
    · exact absurd (SemLoc.dma.inj h1) (sendS_ne_recvS c d e)
  · rintro rfl; exact ⟨Finset.mem_univ _, rfl, h, .inr (.inl rfl)⟩

theorem duties_recv (c : Dev nD) (d : Fin 4) (h : Has c d) : (sched (F := F) m ρ).duties (recvC c d) 0 = {d} := by
  unfold sched; dsimp only
  rw [if_pos rfl]
  refine Finset.ext fun e => ?_
  rw [Finset.mem_filter, Finset.mem_singleton]
  constructor
  · rintro ⟨-, -, -, h1 | h1 | h1⟩
    · exact absurd h1 (dma_ne_bar _)
    · exact absurd (SemLoc.dma.inj h1).symm (sendS_ne_recvS c e d)
    · exact (recvS_inj c d e (SemLoc.dma.inj h1)).symm
  · rintro rfl; exact ⟨Finset.mem_univ _, rfl, h, .inr (.inr rfl)⟩

/-- A semaphore that is none of the nine has no duty. -/
theorem duties_none (c : Dev nD) (s : DmaSem sig) (hs : ∀ d, Has c d → s ≠ sendS c d ∧ s ≠ recvS c d) (r : ℕ) :
    (sched (F := F) m ρ).duties ((c : Thread nD τ), .dma s) r = ∅ := by
  unfold sched; dsimp only
  split
  · refine Finset.filter_eq_empty_iff.mpr fun d _ => ?_
    rintro ⟨-, hd, h1 | h1 | h1⟩
    · exact absurd h1 (dma_ne_bar _)
    · exact (hs d hd).1 (SemLoc.dma.inj h1)
    · exact (hs d hd).2 (SemLoc.dma.inj h1)
  · rfl

theorem amount_bar (c : Dev nD) (d : Fin 4) : (sched (F := F) m ρ).amount (barC c) 0 d = 1 := by
  unfold sched; dsimp only; unfold amt; rw [if_pos rfl]
theorem amount_send (c : Dev nD) (d e : Fin 4) : (sched (F := F) m ρ).amount (sendC c d) 0 e = units e := by
  unfold sched; dsimp only; unfold amt; rw [if_neg (dma_ne_bar (sendS c d))]
theorem amount_recv (c : Dev nD) (d e : Fin 4) : (sched (F := F) m ρ).amount (recvC c d) 0 e = units e := by
  unfold sched; dsimp only; unfold amt; rw [if_neg (dma_ne_bar (recvS c d))]

theorem expect_bar (c : Dev nD) : (sched (F := F) m ρ).expect (barC c) 0 = (Finset.univ.filter (Has c)).card := by
  unfold Schedule.expect Schedule.amountOf
  rw [duties_bar, Finset.sum_congr rfl fun d _ => amount_bar m ρ c d, Finset.sum_const, smul_eq_mul, mul_one]
theorem expect_send (c : Dev nD) (d : Fin 4) (h : Has c d) : (sched (F := F) m ρ).expect (sendC c d) 0 = units d := by
  unfold Schedule.expect Schedule.amountOf; rw [duties_send m ρ c d h, Finset.sum_singleton, amount_send]
theorem expect_recv (c : Dev nD) (d : Fin 4) (h : Has c d) : (sched (F := F) m ρ).expect (recvC c d) 0 = units d := by
  unfold Schedule.expect Schedule.amountOf; rw [duties_recv m ρ c d h, Finset.sum_singleton, amount_recv]

theorem payload_bar (c : Dev nD) (d : Fin 4) : (sched (F := F) m ρ).payload (barC c) 0 d = land (nbr c d) (opp d) := by
  unfold sched; dsimp only; unfold pay; rw [if_pos rfl]
theorem payload_send (c : Dev nD) (d : Fin 4) : (sched (F := F) m ρ).payload (sendC c d) 0 d = sendPay m ρ c d := by
  unfold sched; dsimp only; unfold pay; rw [if_neg (dma_ne_bar (sendS c d)), if_pos rfl]
theorem payload_recv (c : Dev nD) (d : Fin 4) : (sched (F := F) m ρ).payload (recvC c d) 0 d = recvPay m ρ c d := by
  unfold sched; dsimp only; unfold pay
  rw [if_neg (dma_ne_bar (recvS c d)), if_neg fun h => sendS_ne_recvS c d d (SemLoc.dma.inj h).symm]

/-- A resource held only if the device has the neighbour. -/
def opt (c : Dev nD) (d : Fin 4) (P : sProp 𝕄) : sProp 𝕄 := if Has c d then P else iprop(emp)

theorem opt_pos {c : Dev nD} {d : Fin 4} (h : Has c d) (P : sProp 𝕄) : opt c d P = P := if_pos h
theorem opt_neg {c : Dev nD} {d : Fin 4} (h : ¬ Has c d) (P : sProp 𝕄) : opt c d P = iprop(emp) := if_neg h

/-- Four sides, one by one. -/
theorem bigSep_sides (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A separating conjunction over the existing sides, as one over all sides. -/
theorem bigSep_has (c : Dev nD) (Φ : Fin 4 → sProp 𝕄) :
    bigSep (Finset.univ.filter (Has c)) Φ = bigSep Finset.univ fun d => opt c d (Φ d) := by
  unfold opt
  rw [bigSep_filter]; rfl

theorem rest_bar (c : Dev nD) :
    bigSep ((sched (F := F) m ρ).duties (barC c) 0 \ ∅) (fun d => (sched (F := F) m ρ).payload (barC c) 0 d)
      = bigSep Finset.univ fun d => opt c d (land (nbr c d) (opp d)) := by
  rw [Finset.sdiff_empty, duties_bar, bigSep_has]; exact bigSep_congr fun d _ => by rw [payload_bar]
theorem rest_send (c : Dev nD) (d : Fin 4) (h : Has c d) :
    bigSep ((sched (F := F) m ρ).duties (sendC c d) 0 \ ∅) (fun e => (sched (F := F) m ρ).payload (sendC c d) 0 e) = sendPay m ρ c d := by
  rw [Finset.sdiff_empty, duties_send m ρ c d h, bigSep_singleton, payload_send]
theorem rest_recv (c : Dev nD) (d : Fin 4) (h : Has c d) :
    bigSep ((sched (F := F) m ρ).duties (recvC c d) 0 \ ∅) (fun e => (sched (F := F) m ρ).payload (recvC c d) 0 e) = recvPay m ρ c d := by
  rw [Finset.sdiff_empty, duties_recv m ρ c d h, bigSep_singleton, payload_recv]

end Cert.Halo

end
-- ==== Proof.Geometry.lean ====
/-
Which elements the kernel's copies and stores touch: faces of a block, and slots of the landing and packing buffers.
-/
module

public import proofs.«01_k».proof.Proof.Schedule

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- Writing through one view what another reads gives, on the written elements, any contents that agree with it there. -/
theorem write_eq_of_read {κ : Kind} {sp : Space} {s : Shape} {e : EltTy} {Val : EltTy → Type} (v : View sig κ sp s e)
    (f H : v.ty.Contents Val) (w : s.Idx → Val e) (h : ∀ y, v.read Val H y = w y) :
    ∀ i ∈ v.set, v.write Val f w Finset.univ i = H i := by
  intro i hi
  obtain ⟨y, -, rfl⟩ := Finset.mem_map.mp hi
  rw [View.write_emb_of_mem _ _ (Finset.mem_univ y), ← h y, View.read_apply, cast_cast, cast_eq]

/-- An entry of a block, at natural coordinates. -/
theorem sub_mem {k : ℕ} : 31 - 31 * k < 32 := by omega

/-! ## Slots -/

/-- One slot of a two-slot buffer, as the set of elements with that leading coordinate. -/
theorem slab_set {a b c k : ℕ} {off : Fin 4 → ℕ} (hoff : off = ![k, 0, 0, 0])
    (inb : ∀ x, off x + (⟨4, ![1, a, b, c]⟩ : Shape).size x ≤ (⟨4, ![2, a, b, c]⟩ : Shape).size x) :
    (Rect.unit (s := ⟨4, ![2, a, b, c]⟩) off (⟨4, ![1, a, b, c]⟩ : Shape).size inb).set = slot ![2, a, b, c] k := by
  subst hoff
  ext i
  rw [Rect.mem_set_unit]
  unfold slot
  rw [Finset.mem_filter]
  constructor
  · intro h
    have h0 := h 0
    refine ⟨Finset.mem_univ _, ?_⟩
    have h1 : k ≤ (i 0).val := h0.1
    have h2 : (i 0).val < k + 1 := h0.2
    omega
  · rintro ⟨-, h⟩ x
    match x with
    | 0 => exact ⟨le_of_eq h.symm, show (i 0).val < k + 1 by omega⟩
    | 1 => exact ⟨Nat.zero_le _, show (i 1).val < 0 + a by have : (i 1).val < a := (i 1).isLt; omega⟩
    | 2 => exact ⟨Nat.zero_le _, show (i 2).val < 0 + b by have : (i 2).val < b := (i 2).isLt; omega⟩
    | 3 => exact ⟨Nat.zero_le _, show (i 3).val < 0 + c by have : (i 3).val < c := (i 3).isLt; omega⟩

/-- Where an entry of a slot lies in its buffer. -/
theorem slab_emb {a b c k : ℕ} (hk : k < 2) {off : Fin 4 → ℕ} (hoff : off = ![k, 0, 0, 0])
    (inb : ∀ x, off x + (⟨4, ![1, a, b, c]⟩ : Shape).size x ≤ (⟨4, ![2, a, b, c]⟩ : Shape).size x) (u : Fin 1) (x : Fin a) (y : Fin b) (z : Fin c) :
    (Rect.unit (s := ⟨4, ![2, a, b, c]⟩) off (⟨4, ![1, a, b, c]⟩ : Shape).size inb).emb (ix4 u x y z) = ix4 ⟨k, hk⟩ x y z := by
  subst hoff
  funext w
  refine Fin.ext ?_
  have hu : u.val = 0 := by omega
  match w with
  | 0 => show k + 1 * u.val = k; omega
  | 1 => show 0 + 1 * x.val = x.val; omega
  | 2 => show 0 + 1 * y.val = y.val; omega
  | 3 => show 0 + 1 * z.val = z.val; omega

/-- The same through the view that drops the slot coordinate. -/
theorem slab_emb_squeezed {a b c k : ℕ} (hk : k < 2) {off : Fin 4 → ℕ} (hoff : off = ![k, 0, 0, 0])
    (inb : ∀ x, off x + (⟨4, ![1, a, b, c]⟩ : Shape).size x ≤ (⟨4, ![2, a, b, c]⟩ : Shape).size x)
    (h : (⟨3, ![a, b, c]⟩ : Shape).numel = (⟨4, ![1, a, b, c]⟩ : Shape).numel) (x : Fin a) (y : Fin b) (z : Fin c) :
    (Rect.unit (s := ⟨4, ![2, a, b, c]⟩) off (⟨4, ![1, a, b, c]⟩ : Shape).size inb).emb (Shape.reshapeEquiv h (ix3 x y z)) = ix4 ⟨k, hk⟩ x y z := by
  rw [reshapeEquiv_ix3_1abc h x y z]
  exact slab_emb hk hoff inb _ x y z

/-! ## Faces -/

/-- Where an entry of a box of a block lies. -/
theorem box_emb {a b c p q r : ℕ} {off : Fin 3 → ℕ} (hoff : off = ![p, q, r])
    (inb : ∀ x, off x + (⟨3, ![a, b, c]⟩ : Shape).size x ≤ (S32x32x32).size x) (x : Fin a) (y : Fin b) (z : Fin c)
    (hx : p + x.val < 32) (hy : q + y.val < 32) (hz : r + z.val < 32) :
    (Rect.unit (s := S32x32x32) off (⟨3, ![a, b, c]⟩ : Shape).size inb).emb (ix3 x y z) = ix3 (⟨p + x.val, hx⟩ : Fin 32) ⟨q + y.val, hy⟩ ⟨r + z.val, hz⟩ := by
  subst hoff
  funext w
  refine Fin.ext ?_
  match w with
  | 0 => show p + 1 * x.val = p + x.val; omega
  | 1 => show q + 1 * y.val = q + y.val; omega
  | 2 => show r + 1 * z.val = r + z.val; omega

theorem mem_box {a b c p q r : ℕ} {off : Fin 3 → ℕ} (hoff : off = ![p, q, r])
    (inb : ∀ x, off x + (⟨3, ![a, b, c]⟩ : Shape).size x ≤ (S32x32x32).size x) (i : S32x32x32.Idx) :
    i ∈ (Rect.unit (s := S32x32x32) off (⟨3, ![a, b, c]⟩ : Shape).size inb).set
      ↔ (p ≤ (i 0).val ∧ (i 0).val < p + a) ∧ (q ≤ (i 1).val ∧ (i 1).val < q + b) ∧ (r ≤ (i 2).val ∧ (i 2).val < r + c) := by
  subst hoff
  rw [Rect.mem_set_unit]
  constructor
  · exact fun h => ⟨h 0, h 1, h 2⟩
  · rintro ⟨h0, h1, h2⟩ x
    match x with
    | 0 => exact h0
    | 1 => exact h1
    | 2 => exact h2

/-! ## The kernel's views -/

abbrev uM : Memref sig .tc .vmem S32x32x32 .f32 := Memref.whole cc0_stg0_0
abbrev oM : Memref sig .tc .vmem S32x32x32 .f32 := Memref.whole cc0_stg1_0
abbrev hxM : Memref sig .tc .vmem S2x1x32x32 .f32 := Memref.whole cc0_scratch0
abbrev hyM : Memref sig .tc .vmem S2x32x1x32 .f32 := Memref.whole cc0_scratch1
abbrev hzM : Memref sig .tc .vmem S2x32x32x1 .f32 := Memref.whole cc0_scratch2
abbrev szM : Memref sig .tc .vmem S2x32x32x1 .f32 := Memref.whole cc0_scratch3

/-- The faces of the block that go across x and across y. -/
abbrev srcX (c : Dev nD) : Memref sig .tc .vmem S1x32x32 .f32 :=
  uM.slice (Rect.unit (s := S32x32x32) (k0_off3 c) S1x32x32.size (k0_off3_inb c)) (fun _ => rfl)
abbrev srcY (c : Dev nD) : Memref sig .tc .vmem S32x1x32 .f32 :=
  uM.slice (Rect.unit (s := S32x32x32) (k0_off5 c) S32x1x32.size (k0_off5_inb c)) (fun _ => rfl)

/-- One slot of each two-slot buffer. -/
abbrev xAt (off : Fin 4 → ℕ) (inb : ∀ a, off a + S1x1x32x32.size a ≤ S2x1x32x32.size a) : Memref sig .tc .vmem S1x32x32 .f32 :=
  (hxM.slice (Rect.unit (s := S2x1x32x32) off S1x1x32x32.size inb) (fun _ => rfl)).squeeze S1x32x32 squeezes_S1x1x32x32_S1x32x32
abbrev yAt (off : Fin 4 → ℕ) (inb : ∀ a, off a + S1x32x1x32.size a ≤ S2x32x1x32.size a) : Memref sig .tc .vmem S32x1x32 .f32 :=
  (hyM.slice (Rect.unit (s := S2x32x1x32) off S1x32x1x32.size inb) (fun _ => rfl)).squeeze S32x1x32 squeezes_S1x32x1x32_S32x1x32
abbrev zAt (off : Fin 4 → ℕ) (inb : ∀ a, off a + S1x32x32x1.size a ≤ S2x32x32x1.size a) : Memref sig .tc .vmem S32x32x1 .f32 :=
  (hzM.slice (Rect.unit (s := S2x32x32x1) off S1x32x32x1.size inb) (fun _ => rfl)).squeeze S32x32x1 squeezes_S1x32x32x1_S32x32x1
abbrev pAt (off : Fin 4 → ℕ) (inb : ∀ a, off a + S1x32x32x1.size a ≤ S2x32x32x1.size a) : Memref sig .tc .vmem S32x32x1 .f32 :=
  (szM.slice (Rect.unit (s := S2x32x32x1) off S1x32x32x1.size inb) (fun _ => rfl)).squeeze S32x32x1 squeezes_S1x32x32x1_S32x32x1

theorem xAt_set {k : ℕ} {off : Fin 4 → ℕ} (hoff : off = ![k, 0, 0, 0]) (inb) : (xAt off inb).view.set = slot ![2, 1, 32, 32] k :=
  ((View.set_reshape _ _).trans (View.set_slice_whole cc0_scratch0 _)).trans (slab_set hoff inb)
theorem yAt_set {k : ℕ} {off : Fin 4 → ℕ} (hoff : off = ![k, 0, 0, 0]) (inb) : (yAt off inb).view.set = slot ![2, 32, 1, 32] k :=
  ((View.set_reshape _ _).trans (View.set_slice_whole cc0_scratch1 _)).trans (slab_set hoff inb)
theorem zAt_set {k : ℕ} {off : Fin 4 → ℕ} (hoff : off = ![k, 0, 0, 0]) (inb) : (zAt off inb).view.set = slot ![2, 32, 32, 1] k :=
  ((View.set_reshape _ _).trans (View.set_slice_whole cc0_scratch2 _)).trans (slab_set hoff inb)
theorem pAt_set {k : ℕ} {off : Fin 4 → ℕ} (hoff : off = ![k, 0, 0, 0]) (inb) : (pAt off inb).view.set = slot ![2, 32, 32, 1] k :=
  ((View.set_reshape _ _).trans (View.set_slice_whole cc0_scratch3 _)).trans (slab_set hoff inb)

theorem off3_eq (c : Dev nD) : k0_off3 c = ![31 - 31 * mx c, 0, 0] := k0_off3_eq c
theorem off5_eq (c : Dev nD) : k0_off5 c = ![0, 31 - 31 * my c, 0] := k0_off5_eq c

theorem srcX_set (c : Dev nD) : (srcX c).view.set = faceX c := by
  refine (View.set_slice_whole cc0_stg0_0 _).trans ?_
  ext i
  refine (mem_box (off3_eq c) _ i).trans ?_
  unfold faceX; rw [Finset.mem_filter]
  have h1 : (i 1).val < 32 := (i 1).isLt
  have h2 : (i 2).val < 32 := (i 2).isLt
  constructor
  · rintro ⟨⟨h, h'⟩, -, -⟩; exact ⟨Finset.mem_univ _, by omega⟩
  · rintro ⟨-, h⟩; exact ⟨⟨by omega, by omega⟩, ⟨by omega, by omega⟩, by omega, by omega⟩
theorem srcY_set (c : Dev nD) : (srcY c).view.set = faceY c := by
  refine (View.set_slice_whole cc0_stg0_0 _).trans ?_
  ext i
  refine (mem_box (off5_eq c) _ i).trans ?_
  unfold faceY; rw [Finset.mem_filter]
  have h0 : (i 0).val < 32 := (i 0).isLt
  have h2 : (i 2).val < 32 := (i 2).isLt
  constructor
  · rintro ⟨-, ⟨h, h'⟩, -⟩; exact ⟨Finset.mem_univ _, by omega⟩
  · rintro ⟨-, h⟩; exact ⟨⟨by omega, by omega⟩, ⟨by omega, by omega⟩, by omega, by omega⟩

/-! ## What a copy leaves -/

theorem mx_lt (c : Dev nD) : mx c < 2 := by revert c; decide
theorem my_lt (c : Dev nD) : my c < 2 := by revert c; decide
theorem mx_nbr (c : Dev nD) : mx (nbr c 0) = 1 - mx c := by revert c; decide
theorem my_nbr (c : Dev nD) : my (nbr c 1) = 1 - my c := by revert c; decide

theorem nbr_back0 (c : Dev nD) : nbr (nbr c 0) 0 = c := nbr_nbr c 0
theorem nbr_back1 (c : Dev nD) : nbr (nbr c 1) 1 = c := nbr_nbr c 1
theorem nbr_back2 (c : Dev nD) : nbr (nbr c 2) 3 = c := nbr_nbr c 2
theorem nbr_back3 (c : Dev nD) : nbr (nbr c 3) 2 = c := nbr_nbr c 3

/-- The contents of the landing slots and of the packed faces, entry by entry. -/
theorem HX_nbr (c : Dev nD) (k : Fin 2) (x : Fin 1) (y z : Fin 32) :
    HX m ρ (nbr c 0) (ix4 k x y z) = X m ρ c (ix3 (edge (mx c)) y z) := by
  unfold HX; rw [nbr_back0]; rfl
theorem HY_nbr (c : Dev nD) (k : Fin 2) (x : Fin 32) (y : Fin 1) (z : Fin 32) :
    HY m ρ (nbr c 1) (ix4 k x y z) = X m ρ c (ix3 x (edge (my c)) z) := by
  unfold HY; rw [nbr_back1]; rfl
theorem HZ_below (c : Dev nD) (x y : Fin 32) (z : Fin 1) :
    HZ m ρ (nbr c 2) (ix4 (1 : Fin 2) x y z) = X m ρ c (ix3 x y (edge 1)) := by
  unfold HZ; rw [nbr_back2]; exact if_neg (by show ¬ ((1 : Fin 2) : ℕ) = 0; decide)
theorem HZ_above (c : Dev nD) (x y : Fin 32) (z : Fin 1) :
    HZ m ρ (nbr c 3) (ix4 (0 : Fin 2) x y z) = X m ρ c (ix3 x y (edge 0)) := by
  unfold HZ; rw [nbr_back3]; exact if_pos (by show ((0 : Fin 2) : ℕ) = 0; decide)

/-- The x copy leaves the sender's face in the receiver's slot. -/
theorem landedX (c : Dev nD) {off : Fin 4 → ℕ} (hoff : off = ![mx c, 0, 0, 0]) (inb) (f) :
    ∀ i ∈ (xAt off inb).view.set, (xAt off inb).view.write (Elt F) f ((srcX c).view.read (Elt F) (X m ρ c)) Finset.univ i = HX m ρ (nbr c 0) i := by
  refine write_eq_of_read _ _ _ _ fun y => ?_
  rw [eq_ix3 y]
  show HX m ρ (nbr c 0) ((Rect.unit (s := S2x1x32x32) off S1x1x32x32.size inb).emb (Shape.reshapeEquiv _ (ix3 (y 0) (y 1) (y 2))))
    = X m ρ c ((Rect.unit (s := S32x32x32) (k0_off3 c) S1x32x32.size (k0_off3_inb c)).emb (ix3 (y 0) (y 1) (y 2)))
  have h0 : (y 0).val < 1 := (y 0).isLt
  have h1 : (y 1).val < 32 := (y 1).isLt
  have h2 : (y 2).val < 32 := (y 2).isLt
  refine ((congrArg (HX m ρ (nbr c 0)) (slab_emb_squeezed (mx_lt c) hoff inb _ (y 0) (y 1) (y 2))).trans (HX_nbr m ρ c _ _ _ _)).trans ?_
  refine congrArg (X m ρ c) (Eq.trans ?_ (box_emb (off3_eq c) _ (y 0) (y 1) (y 2) (by omega) (by omega) (by omega)).symm)
  funext w; refine Fin.ext ?_
  match w with
  | 0 => show 31 - 31 * mx c = 31 - 31 * mx c + (y 0).val; omega
  | 1 => show (y 1).val = 0 + (y 1).val; omega
  | 2 => show (y 2).val = 0 + (y 2).val; omega

/-- The y copy leaves the sender's face in the receiver's slot. -/
theorem landedY (c : Dev nD) {off : Fin 4 → ℕ} (hoff : off = ![my c, 0, 0, 0]) (inb) (f) :
    ∀ i ∈ (yAt off inb).view.set, (yAt off inb).view.write (Elt F) f ((srcY c).view.read (Elt F) (X m ρ c)) Finset.univ i = HY m ρ (nbr c 1) i := by
  refine write_eq_of_read _ _ _ _ fun y => ?_
  rw [eq_ix3 y]
  show HY m ρ (nbr c 1) ((Rect.unit (s := S2x32x1x32) off S1x32x1x32.size inb).emb (Shape.reshapeEquiv _ (ix3 (y 0) (y 1) (y 2))))
    = X m ρ c ((Rect.unit (s := S32x32x32) (k0_off5 c) S32x1x32.size (k0_off5_inb c)).emb (ix3 (y 0) (y 1) (y 2)))
  have h0 : (y 0).val < 32 := (y 0).isLt
  have h1 : (y 1).val < 1 := (y 1).isLt
  have h2 : (y 2).val < 32 := (y 2).isLt
  refine ((congrArg (HY m ρ (nbr c 1)) (slab_emb_squeezed (my_lt c) hoff inb _ (y 0) (y 1) (y 2))).trans (HY_nbr m ρ c _ _ _ _)).trans ?_
  refine congrArg (X m ρ c) (Eq.trans ?_ (box_emb (off5_eq c) _ (y 0) (y 1) (y 2) (by omega) (by omega) (by omega)).symm)
  funext w; refine Fin.ext ?_
  match w with
  | 0 => show (y 0).val = 0 + (y 0).val; omega
  | 1 => show 31 - 31 * my c = 31 - 31 * my c + (y 1).val; omega
  | 2 => show (y 2).val = 0 + (y 2).val; omega

/-- A z copy leaves a packed slot in a landing slot: its own first face above the neighbour below, its own last face below
    the neighbour above. -/
theorem landedZ (c : Dev nD) {off off' : Fin 4 → ℕ} (n : Dev nD) (k k' : ℕ) (hk : k < 2) (hk' : k' < 2)
    (hoff : off = ![k, 0, 0, 0]) (hoff' : off' = ![k', 0, 0, 0]) (inb inb') (f)
    (h : ∀ (x y : Fin 32) (z : Fin 1), HZ m ρ n (ix4 (⟨k', hk'⟩ : Fin 2) x y z) = SZ m ρ c (ix4 (⟨k, hk⟩ : Fin 2) x y z)) :
    ∀ i ∈ (zAt off' inb').view.set, (zAt off' inb').view.write (Elt F) f ((pAt off inb).view.read (Elt F) (SZ m ρ c)) Finset.univ i = HZ m ρ n i := by
  refine write_eq_of_read _ _ _ _ fun y => ?_
  rw [eq_ix3 y]
  show HZ m ρ n ((Rect.unit (s := S2x32x32x1) off' S1x32x32x1.size inb').emb (Shape.reshapeEquiv _ (ix3 (y 0) (y 1) (y 2))))
    = SZ m ρ c ((Rect.unit (s := S2x32x32x1) off S1x32x32x1.size inb).emb (Shape.reshapeEquiv _ (ix3 (y 0) (y 1) (y 2))))
  exact ((congrArg (HZ m ρ n) (slab_emb_squeezed hk' hoff' inb' _ (y 0) (y 1) (y 2))).trans (h _ _ _)).trans
    (congrArg (SZ m ρ c) (slab_emb_squeezed hk hoff inb _ (y 0) (y 1) (y 2))).symm

end Cert.Halo

end
-- ==== Proof.Owed.lean ====
/-
What a device owes the others, and the order in which waiting is safe.

A device starts out owing one unit to the barrier of each neighbour it has and one copy's units to the receiving
semaphore of each.  It waits for its own barrier while it still owes the copies, so receiving semaphores stand above
barriers; it waits for staging copies while it owes everything, so those stand below; all other waits happen when it
owes nothing.
-/
module

public import proofs.«01_k».proof.Proof.Schedule

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The copy owed to the neighbour on side `d`. -/
def oS (c : Dev nD) (d : Fin 4) : CellTallies nD τ sig Unit :=
  if Has c d then tallyAt (recvC (nbr c d) (opp d)) () (units d) else 0
/-- The signal owed to the neighbour on side `d`. -/
def oB (c : Dev nD) (d : Fin 4) : CellTallies nD τ sig Unit :=
  if Has c d then tallyAt (barC (nbr c d)) () 1 else 0
/-- All copies. -/
def O₁ (c : Dev nD) : CellTallies nD τ sig Unit := oS c 3 + oS c 2 + oS c 1 + oS c 0
/-- All copies and all signals. -/
def O₀ (c : Dev nD) : CellTallies nD τ sig Unit := O₁ c + oB c 3 + oB c 2 + oB c 1 + oB c 0

/-- The tag set: one tag for every cell of a TensorCore. -/
def L (g : GSem nD τ sig) : Finset Unit := if g.1.2 = .tc then {()} else ∅

/-- The receiving semaphores, by number. -/
def isRecv (s : DmaSem sig) : Prop := s.val = 4 ∨ s.val = 5 ∨ s.val = 8 ∨ s.val = 9 ∨ s.val = 12 ∨ s.val = 13
instance (s : DmaSem sig) : Decidable (isRecv s) := by unfold isRecv; infer_instance

/-- The height of a semaphore. -/
def height (s : SemLoc sig) : ℕ :=
  match s with
  | .reg b => 1
  | .dma s => if isRecv s then 2 else 0
def lv (g : GSem nD τ sig) (_ : Unit) : ℕ := height g.2

theorem L_of_ne (g : GSem nD τ sig) (h : g.1.2 ≠ .tc) : L g = ∅ := if_neg h
theorem L_tc (c : Dev nD) (sm : SemLoc sig) : L ((c : Thread nD τ), sm) = {()} := if_pos rfl

theorem recvS_isRecv : ∀ (c : Dev nD) (d : Fin 4), isRecv (recvS c d) := by decide
theorem lv_bar (c : Dev nD) : lv (barC c) () = 1 := rfl
theorem lv_recv (c : Dev nD) (d : Fin 4) : lv (recvC c d) () = 2 := if_pos (recvS_isRecv c d)

theorem tallyAt_pos {g g' : GSem nD τ sig} {u u' : Unit} {n : ℕ} (h : 0 < (tallyAt g' u' n : CellTallies nD τ sig Unit) g u) : g = g' := by
  rw [tallyAt_apply] at h
  by_contra hn
  rw [if_neg fun h' => hn h'.1] at h
  exact Nat.lt_irrefl 0 h

theorem oS_pos {c : Dev nD} {d : Fin 4} {g : GSem nD τ sig} {u : Unit} (h : 0 < oS c d g u) : ∃ n e, g = recvC n e := by
  unfold oS at h
  split at h
  · exact ⟨_, _, tallyAt_pos h⟩
  · exact absurd h (Nat.lt_irrefl 0)
theorem oB_pos {c : Dev nD} {d : Fin 4} {g : GSem nD τ sig} {u : Unit} (h : 0 < oB c d g u) : ∃ n, g = barC n := by
  unfold oB at h
  split at h
  · exact ⟨_, tallyAt_pos h⟩
  · exact absurd h (Nat.lt_irrefl 0)

theorem add_pos_cases {A B : CellTallies nD τ sig Unit} {g : GSem nD τ sig} {u : Unit} (h : 0 < (A + B) g u) : 0 < A g u ∨ 0 < B g u := by
  rw [Pi.add_apply, Finsupp.add_apply] at h
  omega

theorem O₁_pos {c : Dev nD} {g : GSem nD τ sig} {u : Unit} (h : 0 < O₁ c g u) : ∃ n e, g = recvC n e := by
  unfold O₁ at h
  rcases add_pos_cases h with h | h
  · rcases add_pos_cases h with h | h
    · rcases add_pos_cases h with h | h <;> exact oS_pos h
    · exact oS_pos h
  · exact oS_pos h

theorem O₀_pos {c : Dev nD} {g : GSem nD τ sig} {u : Unit} (h : 0 < O₀ c g u) : (∃ n e, g = recvC n e) ∨ ∃ n, g = barC n := by
  unfold O₀ at h
  rcases add_pos_cases h with h | h
  · rcases add_pos_cases h with h | h
    · rcases add_pos_cases h with h | h
      · rcases add_pos_cases h with h | h
        · exact .inl (O₁_pos h)
        · exact .inr (oB_pos h)
      · exact .inr (oB_pos h)
    · exact .inr (oB_pos h)
  · exact .inr (oB_pos h)

/-- Staging waits are safe whatever is owed. -/
theorem mayWait_stage (c : Dev nD) (q : DmaSem sig) (hq : ¬ isRecv q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨n, e, rfl⟩ | ⟨n, rfl⟩ <;> exact Finset.mem_singleton_self _)
      (fun p hp => by
        rw [Finset.mem_singleton.mp hp]
        show (if isRecv q then 2 else 0) ≤ 0
        rw [if_neg hq])
      (fun g u hg => by
        rcases O₀_pos hg with ⟨n, e, rfl⟩ | ⟨n, rfl⟩
        · exact (lv_recv n e).symm ▸ Nat.succ_pos 1
        · exact Nat.one_pos)
  · rw [MayWait_zero]; iintro -; iempintro

/-- The barrier wait is safe while the copies are owed. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨n, e, rfl⟩ := O₁_pos hg; exact Finset.mem_singleton_self _)
    (fun p hp => by rw [Finset.mem_singleton.mp hp]; exact le_refl 1)
    (fun g u hg => by obtain ⟨n, e, rfl⟩ := O₁_pos hg; exact (lv_recv n e).symm ▸ Nat.lt_succ_self 1)

end Cert.Halo

end
-- ==== Proof.Rules.lean ====
/-
The steps of the protocol, each stated once for any device and any side.
-/
module

public import proofs.«01_k».proof.Proof.Geometry
public import proofs.«01_k».proof.Proof.Owed

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The records every device shares -/

/-- The semaphores no copy of the device uses: the ones of the array slots that stand for its own coordinate. -/
def idleS (c : Dev nD) (d : Fin 4) : DmaSem sig :=
  match d with
  | 0 => (⟨2 + (1 - mx c), by have : sig.nDmaSem = 14 := rfl; omega⟩ : Fin sig.nDmaSem)
  | 1 => (⟨6 + (1 - my c), by have : sig.nDmaSem = 14 := rfl; omega⟩ : Fin sig.nDmaSem)
  | 2 => (⟨4 + min (mx c) 1, by have : sig.nDmaSem = 14 := rfl; omega⟩ : Fin sig.nDmaSem)
  | 3 => (⟨8 + min (my c) 1, by have : sig.nDmaSem = 14 := rfl; omega⟩ : Fin sig.nDmaSem)

theorem idleS_ne : ∀ (c : Dev nD) (d e : Fin 4), idleS c d ≠ sendS c e ∧ idleS c d ≠ recvS c e := by decide

/-- A device's thirteen semaphores: the barrier, four sending, four receiving, four idle. -/
abbrev Cid : Type := Option (Fin 3 × Fin 4)

def csem (c : Dev nD) : Cid → SemLoc sig
  | none => .reg barS
  | some (0, d) => .dma (sendS c d)
  | some (1, d) => .dma (recvS c d)
  | some (2, d) => .dma (idleS c d)

abbrev cell (p : Dev nD × Cid) : GSem nD τ sig := ((p.1 : Thread nD τ), csem p.1 p.2)

/-- The invariants of all cells, and that all have reached round 0. -/
def recs (K : Dev nD × Cid → ℕ) : sProp 𝕄 :=
  iprop((bigSep Finset.univ fun p : Dev nD × Cid => cellInv EH (sched m ρ) (K p) (cell p))
    ∗ bigSep Finset.univ fun p : Dev nD × Cid => reached EH (cell p) 0)

instance recs_persistent (K : Dev nD × Cid → ℕ) : BI.Persistent (recs m ρ K) := by unfold recs; infer_instance

variable (K : Dev nD × Cid → ℕ)

theorem recs_inv (p : Dev nD × Cid) : recs m ρ K ⊢ cellInv EH (sched m ρ) (K p) (cell p) := by
  unfold recs; iintro ⟨H, -⟩
  iapply (show (bigSep Finset.univ fun p : Dev nD × Cid => (cellInv EH (sched m ρ) (K p) (cell p) : sProp 𝕄)) ⊢ cellInv EH (sched m ρ) (K p) (cell p)
    from bigSep_elim (Finset.mem_univ p))
  iexact H
theorem recs_reached (p : Dev nD × Cid) : recs m ρ K ⊢ reached EH (cell p) 0 := by
  unfold recs; iintro ⟨-, H⟩
  iapply (show (bigSep Finset.univ fun p : Dev nD × Cid => (reached EH (cell p) 0 : sProp 𝕄)) ⊢ reached EH (cell p) 0
    from bigSep_elim (Finset.mem_univ p))
  iexact H

/-- What a device owes, whatever it has waited for. -/
def owe (c : Dev nD) (O : CellTallies nD τ sig Unit) : sProp 𝕄 := iprop(∃ W, owes (c : Thread nD τ) O W)

/-- A resource kept only if the device lacks the neighbour. -/
def keep (c : Dev nD) (d : Fin 4) (P : sProp 𝕄) : sProp 𝕄 := if Has c d then iprop(emp) else P

theorem keep_pos {c : Dev nD} {d : Fin 4} (h : Has c d) (P : sProp 𝕄) : keep c d P = iprop(emp) := if_pos h
theorem keep_neg {c : Dev nD} {d : Fin 4} (h : ¬ Has c d) (P : sProp 𝕄) : keep c d P = P := if_neg h

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Signals -/

/-- One signal: the unit owed to the neighbour on side `d` is paid, and the landing part on that side goes with it. -/
theorem wp_sig (c n : Dev nD) (d : Fin 4) (hd : Has c d) (hn : n = nbr c d) (O : CellTallies nD τ sig Unit)
    {α : Type} {Q : α → sProp 𝕄} {k : PUnit → Prog (TpuEff nD τ sig (Elt F) Λ₀ .tc) α} :
    iprop(recs m ρ K ∗ owe c (O + oB c d) ∗ dutyTok EH (barC (nbr c d)) 0 (opp d) ∗ land c d)
      ⊢ iprop((owe c O -∗ wpc c (k ⟨⟩) Q) -∗ wpc c (.op (.semSignal ((n : Dev nD) : Thread nD τ) barS ((1 : ℕ) : ℤ)) k) Q) := by
  subst hn
  unfold owe oB
  rw [if_pos hd]
  iintro ⟨#HR, ⟨%W, HO⟩, Htok, Hland⟩ Hk
  iapply (Rounds.wp_signal 𝒱₀ EH (sched m ρ) (c : Thread nD τ) none (dst := (nbr c d : Thread nD τ)) (κ := K (nbr c d, none))
      (d := opp d) (by rw [duties_bar]; exact Finset.mem_filter.mpr ⟨Finset.mem_univ _, (has_nbr c d).mpr hd⟩)
      (amount_bar m ρ (nbr c d) (opp d)) () O rfl)
    $$ [HO Htok Hland]
  · isplitr; · iapply (recs_inv m ρ K (nbr c d, none)); iexact HR
    isplitl [HO]; · iexact HO
    isplitl [Htok]; · iexact Htok
    isplitl [Hland]; · rw [payload_bar, nbr_nbr, opp_opp]; iexact Hland
    iapply (recs_reached m ρ K (nbr c d, none)); iexact HR
  iintro HO
  iapply Hk
  iexists W; iexact HO

/-- The same if the neighbour exists, nothing otherwise. -/
theorem wp_sig_if (c : Dev nD) (d : Fin 4) {φ : Prop} [Decidable φ] (hφ : φ ↔ Has c d) (n : φ → Dev nD) (hn : ∀ h, n h = nbr c d)
    (O : CellTallies nD τ sig Unit) {α : Type} {Q : α → sProp 𝕄} {k : Prog (TpuEff nD τ sig (Elt F) Λ₀ .tc) α} :
    iprop(recs m ρ K ∗ owe c (O + oB c d) ∗ dutyTok EH (barC (nbr c d)) 0 (opp d) ∗ land c d)
      ⊢ iprop(((owe c O ∗ keep c d (land c d)) -∗ wpc c k Q)
          -∗ wpc c (if h : φ then .op (.semSignal ((n h : Dev nD) : Thread nD τ) barS ((1 : ℕ) : ℤ)) (fun _ => k) else k) Q) := by
  by_cases h : φ
  · rw [dif_pos h, keep_pos (hφ.mp h)]
    iintro H Hk
    iapply (wp_sig m ρ K c (n h) d (hφ.mp h) (hn h) O) $$ H
    iintro HO
    iapply Hk
    isplitl; · iexact HO
    iempintro
  · rw [dif_neg h, keep_neg (fun h' => h (hφ.mpr h'))]
    unfold oB; rw [if_neg (fun h' => h (hφ.mpr h')), add_zero]
    iintro ⟨-, HO, -, Hland⟩ Hk
    iapply Hk
    isplitl [HO] <;> iassumption

/-! ## The barrier -/

/-- The wait for the own barrier: every existing neighbour's landing part arrives; the barrier is done with. -/
theorem wp_barwait (c : Dev nD) (z : ℤ) (hz : z = (((Finset.univ.filter (Has c)).card : ℕ) : ℤ))
    {α : Type} {Q : α → sProp 𝕄} {k : PUnit → Prog (TpuEff nD τ sig (Elt F) Λ₀ .tc) α} :
    iprop(recs m ρ K ∗ levAts L lv ∗ owe c (O₁ c) ∗ atPos EH (barC c) 0 ∅ 0
        ∗ cred (tallyAt (barC c) () (Finset.univ.filter (Has c)).card))
      ⊢ iprop(((owe c (O₁ c) ∗ semVal (barC c) 0 ∗ bigSep Finset.univ fun d => opt c d (land (nbr c d) (opp d))) -∗ wpc c (k ⟨⟩) Q)
          -∗ wpc c (.op (.semWait barS z) k) Q) := by
  subst hz
  unfold owe
  iintro ⟨#HR, #Hlev, ⟨%W, HO⟩, Hat, Hc⟩ Hk
  iapply (Rounds.wp_wait_rest_token 𝒱₀ EH (sched m ρ) (c : Thread nD τ) none (κ := K (c, none))
      (wpE_semWait_eq 𝒱₀ (c : Thread nD τ) none Set.univ) (Set.mem_univ _) () (O := O₁ c) (W := W) (R := 0) (m := 0) (T := ∅)
      (by rw [expect_bar, Nat.zero_add])) $$ [Hc HO Hat]
  · isplitr; · iapply (recs_inv m ρ K (c, none)); iexact HR
    isplitl [Hc]; · iexact Hc
    isplitl [HO]; · iexact HO
    isplitr; · iapply (mayWait_bar c); iexact Hlev
    iexact Hat
  iintro ⟨HO, Hat, -, Hpay⟩
  ihave Hpay := (Entails.of_eq (rest_bar m ρ c)) $$ Hpay
  imod (Rounds.cell_close EH (sched m ρ) (Set.mem_univ (K (c, none))) (fun h => h) (R := 0 + 1) (duties_later m ρ (barC c))) $$ [Hat] with Hz
  · isplitr; · iapply (recs_inv m ρ K (c, none)); iexact HR
    iexact Hat
  iapply Hk
  isplitl [HO]; · iexists (insert (SemLoc.reg barS, ()) W); iexact HO
  isplitl [Hz]; · iexact Hz
  iexact Hpay

/-! ## Copies -/

/-- One copy to the neighbour on side `d`: the source goes to the own sending semaphore, the neighbour's landing part,
    holding the face, to the neighbour's receiving semaphore. -/
theorem wp_copy (c n : Dev nD) (d : Fin 4) (hd : Has c d) (hn : n = nbr c d) {s : Shape}
    {src : Memref sig .tc .vmem s .f32} {dst : Memref sig .tc .vmem s .f32} {sS sR : DmaSem sig}
    (hS : sS = sendS c d) (hRv : sR = recvS (nbr c d) (opp d))
    {hsc : (dst : Memref sig (Dev.tc n : Thread nD τ).2.kind .vmem s .f32).view.ref.isScScratch = false}
    {hsrc : src.view.WordExact} {hdst : (dst : Memref sig (Dev.tc n : Thread nD τ).2.kind .vmem s .f32).view.WordExact}
    {hsem : DmaTarget.Typed .vmem (.dma sR) (.remote (Dev.tc n : Thread nD τ) (dst : Memref sig (Dev.tc n : Thread nD τ).2.kind .vmem s .f32) (.dma sS) hsc)}
    {q : PosShare TreeShare} (fs : src.view.ty.Contents (Elt F)) (H : dst.view.ty.Contents (Elt F))
    (hN : dst.view.dmaCredit = units d)
    (hsp : sendPay m ρ c d = iprop(src.view.loc (c : Thread nD τ) ↦[src.view.set]{q} fs))
    (hland : land (F := F) (nbr c d) (opp d) = iprop(∃ f, dst.view.loc ((nbr c d : Dev nD) : Thread nD τ) ↦[dst.view.set]{fullShare} f))
    (hrecv : recvPay m ρ (nbr c d) (opp d) = iprop(dst.view.loc ((nbr c d : Dev nD) : Thread nD τ) ↦[dst.view.set]{fullShare} H))
    (hval : ∀ f, ∀ i ∈ dst.view.set, dst.view.write (Elt F) f (src.view.read (Elt F) fs) Finset.univ i = H i)
    (O : CellTallies nD τ sig Unit)
    {α : Type} {Q : α → sProp 𝕄} {k : PUnit → Prog (TpuEff nD τ sig (Elt F) Λ₀ .tc) α} :
    iprop(recs m ρ K ∗ sendPay m ρ c d ∗ land (nbr c d) (opp d) ∗ owe c (O + oS c d)
        ∗ dutyTok EH (sendC c d) 0 d ∗ dutyTok EH (recvC (nbr c d) (opp d)) 0 (opp d))
      ⊢ iprop(((owe c O ∗ cred (tallyAt (sendC c d) () (units d))) -∗ wpc c (k ⟨⟩) Q)
          -∗ wpc c (.op (.enqueueDma src (.remote (Dev.tc n : Thread nD τ) dst (.dma sS) hsc) (.dma sR) hsrc hdst hsem) k) Q) := by
  subst hn hS hRv
  unfold owe oS
  rw [if_pos hd, hsp, hland]
  iintro ⟨#HR, Hsrc, ⟨%f, Hdst⟩, ⟨%W, HO⟩, HtS, HtR⟩ Hk
  iapply (Rounds.wp_send_pointsTo 𝒱₀ EH (sched m ρ) (c : Thread nD τ) none (κ₁ := K (c, some (0, d))) (κ₂ := K (nbr c d, some (1, opp d)))
      (r₁ := 0) (r₂ := 0) (d₁ := d) (d₂ := opp d) (fs := fs) (fd := f)
      (by rw [duties_send m ρ c d hd]; exact Finset.mem_singleton_self _)
      (by rw [duties_recv m ρ _ _ ((has_nbr c d).mpr hd)]; exact Finset.mem_singleton_self _)
      () () (units d) (show View.amount dst.view (.dma (recvS (nbr c d) (opp d))) = units d from hN) (amount_send m ρ c d d) ((amount_recv m ρ (nbr c d) (opp d) (opp d)).trans (units_opp d)) O rfl (W := W)
      (by rw [payload_send, hsp])
      (by rw [payload_recv, hrecv, pointsTo_congr (hval f)])) $$ [Hsrc Hdst HO HtS HtR]
  · isplitr; · iapply (recs_inv m ρ K (c, some (0, d))); iexact HR
    isplitr; · iapply (recs_inv m ρ K (nbr c d, some (1, opp d))); iexact HR
    isplitl [Hsrc]; · iexact Hsrc
    isplitl [Hdst]; · iexact Hdst
    isplitl [HO]; · iexact HO
    isplitl [HtS]; · iexact HtS
    isplitr; · iapply (recs_reached m ρ K (c, some (0, d))); iexact HR
    isplitl [HtR]; · iexact HtR
    iapply (recs_reached m ρ K (nbr c d, some (1, opp d))); iexact HR
  iintro ⟨Hc, HO⟩
  iapply Hk
  isplitl [HO]; · iexists W; iexact HO
  iexact Hc

/-! ## Waits for copies -/

/-- The wait for the neighbour's copy: its face arrives; the semaphore is done with. -/
theorem wp_recv (c : Dev nD) (d : Fin 4) (hd : Has c d) {sp sp' : Space} {s s' : Shape} {e e' : EltTy} {sm : DmaSem sig} (hs : sm = recvS c d)
    {src : Memref sig .tc sp' s' e'} {dst : Memref sig .tc sp s e} {hsrc : src.view.WordExact} {hdst : dst.view.WordExact}
    (hN : dst.view.dmaCredit = units d) {α : Type} {Q : α → sProp 𝕄} {k : PUnit → Prog (TpuEff nD τ sig (Elt F) Λ₀ .tc) α} :
    iprop(recs m ρ K ∗ owe c 0 ∗ atPos EH (recvC c d) 0 ∅ 0 ∗ cred (tallyAt (recvC c d) () (units d)))
      ⊢ iprop(((owe c 0 ∗ semVal (recvC c d) 0 ∗ recvPay m ρ c d) -∗ wpc c (k ⟨⟩) Q)
          -∗ wpc c (.op (.waitDma2 sm src dst hsrc hdst) k) Q) := by
  subst hs
  unfold owe
  iintro ⟨#HR, ⟨%W, HO⟩, Hat, Hc⟩ Hk
  iapply (Rounds.wp_wait_rest_token 𝒱₀ EH (sched m ρ) (c : Thread nD τ) none (κ := K (c, some (1, d)))
      (wpE_waitDma2_eq 𝒱₀ (c : Thread nD τ) none Set.univ) (Set.mem_univ _) () (O := 0) (W := W) (R := 0) (m := 0) (T := ∅)
      (by rw [Nat.zero_add, expect_recv m ρ c d hd, hN])) $$ [Hc HO Hat]
  · isplitr; · iapply (recs_inv m ρ K (c, some (1, d))); iexact HR
    isplitl [Hc]; · rw [hN]; iexact Hc
    isplitl [HO]; · iexact HO
    isplitr; · rw [MayWait_zero]; iempintro
    iexact Hat
  iintro ⟨HO, Hat, -, Hpay⟩
  ihave Hpay := (Entails.of_eq (rest_recv m ρ c d hd)) $$ Hpay
  imod (Rounds.cell_close EH (sched m ρ) (Set.mem_univ (K (c, some (1, d)))) (fun h => h) (R := 0 + 1) (duties_later m ρ (recvC c d))) $$ [Hat] with Hz
  · isplitr; · iapply (recs_inv m ρ K (c, some (1, d))); iexact HR
    iexact Hat
  iapply Hk
  isplitl [HO]; · iexists (insert (SemLoc.dma (recvS c d), ()) W); iexact HO
  isplitl [Hz]; · iexact Hz
  iexact Hpay

/-- The wait for the own copy's source to be read: the source comes back; the semaphore is done with. -/
theorem wp_sent (c : Dev nD) (d : Fin 4) (hd : Has c d) {sp sp' : Space} {s s' : Shape} {e e' : EltTy} {sm : DmaSem sig} (hs : sm = sendS c d)
    {src : Memref sig .tc sp' s' e'} {dst : Memref sig .tc sp s e} {hsrc : src.view.WordExact} {hdst : dst.view.WordExact}
    (hN : dst.view.dmaCredit = units d) {α : Type} {Q : α → sProp 𝕄} {k : PUnit → Prog (TpuEff nD τ sig (Elt F) Λ₀ .tc) α} :
    iprop(recs m ρ K ∗ owe c 0 ∗ atPos EH (sendC c d) 0 ∅ 0 ∗ cred (tallyAt (sendC c d) () (units d)))
      ⊢ iprop(((owe c 0 ∗ semVal (sendC c d) 0 ∗ sendPay m ρ c d) -∗ wpc c (k ⟨⟩) Q)
          -∗ wpc c (.op (.waitDma2 sm src dst hsrc hdst) k) Q) := by
  subst hs
  unfold owe
  iintro ⟨#HR, ⟨%W, HO⟩, Hat, Hc⟩ Hk
  iapply (Rounds.wp_wait_rest_token 𝒱₀ EH (sched m ρ) (c : Thread nD τ) none (κ := K (c, some (0, d)))
      (wpE_waitDma2_eq 𝒱₀ (c : Thread nD τ) none Set.univ) (Set.mem_univ _) () (O := 0) (W := W) (R := 0) (m := 0) (T := ∅)
      (by rw [Nat.zero_add, expect_send m ρ c d hd, hN])) $$ [Hc HO Hat]
  · isplitr; · iapply (recs_inv m ρ K (c, some (0, d))); iexact HR
    isplitl [Hc]; · rw [hN]; iexact Hc
    isplitl [HO]; · iexact HO
    isplitr; · rw [MayWait_zero]; iempintro
    iexact Hat
  iintro ⟨HO, Hat, -, Hpay⟩
  ihave Hpay := (Entails.of_eq (rest_send m ρ c d hd)) $$ Hpay
  imod (Rounds.cell_close EH (sched m ρ) (Set.mem_univ (K (c, some (0, d)))) (fun h => h) (R := 0 + 1) (duties_later m ρ (sendC c d))) $$ [Hat] with Hz
  · isplitr; · iapply (recs_inv m ρ K (c, some (0, d))); iexact HR
    iexact Hat
  iapply Hk
  isplitl [HO]; · iexists (insert (SemLoc.dma (sendS c d), ()) W); iexact HO
  isplitl [Hz]; · iexact Hz
  iexact Hpay

/-! ## Semaphores nothing happens on -/

theorem duties_send_none (c : Dev nD) (d : Fin 4) (h : ¬ Has c d) (r : ℕ) : (sched (F := F) m ρ).duties (sendC c d) r = ∅ :=
  duties_none m ρ c (sendS c d) (fun e he => ⟨fun h' => h (sendS_inj c d e h' ▸ he), sendS_ne_recvS c d e⟩) r
theorem duties_recv_none (c : Dev nD) (d : Fin 4) (h : ¬ Has c d) (r : ℕ) : (sched (F := F) m ρ).duties (recvC c d) r = ∅ :=
  duties_none m ρ c (recvS c d) (fun e he => ⟨fun h' => sendS_ne_recvS c e d h'.symm, fun h' => h (recvS_inj c d e h' ▸ he)⟩) r
theorem duties_idle (c : Dev nD) (d : Fin 4) (r : ℕ) : (sched (F := F) m ρ).duties ((c : Thread nD τ), .dma (idleS c d)) r = ∅ :=
  duties_none m ρ c (idleS c d) (fun e _ => idleS_ne c d e) r

/-- A cell without duties can be closed at once. -/
theorem close_unused (p : Dev nD × Cid) (h : ∀ r, (sched (F := F) m ρ).duties (cell p) r = ∅) :
    iprop(recs m ρ K ∗ atPos EH (cell p) 0 ∅ 0) ⊢ iprop(|={Set.univ}=> semVal (cell p) 0) := by
  iintro ⟨#HR, Hat⟩
  iapply (Rounds.cell_close EH (sched m ρ) (Set.mem_univ (K p)) (fun h => h) (R := 0) (fun r _ => h r))
  isplitr; · iapply (recs_inv m ρ K p); iexact HR
  iexact Hat

/-! ## Conditional steps -/

/-- A copy made only if the neighbour exists; `P` stands in for the source if it does not. -/
theorem wp_copy_if (c : Dev nD) (d : Fin 4) {φ : Prop} [Decidable φ] (hφ : φ ↔ Has c d) (n : φ → Dev nD) (hn : ∀ h, n h = nbr c d) {s : Shape}
    {src : Memref sig .tc .vmem s .f32} {dst : Memref sig .tc .vmem s .f32} {sS sR : DmaSem sig}
    (hS : sS = sendS c d) (hRv : sR = recvS (nbr c d) (opp d))
    {hsc : ∀ h, (dst : Memref sig (Dev.tc (n h) : Thread nD τ).2.kind .vmem s .f32).view.ref.isScScratch = false}
    {hsrc : src.view.WordExact} {hdst : ∀ h, (dst : Memref sig (Dev.tc (n h) : Thread nD τ).2.kind .vmem s .f32).view.WordExact}
    {hsem : ∀ h, DmaTarget.Typed .vmem (.dma sR) (.remote (Dev.tc (n h) : Thread nD τ) (dst : Memref sig (Dev.tc (n h) : Thread nD τ).2.kind .vmem s .f32) (.dma sS) (hsc h))}
    {q : PosShare TreeShare} (fs : src.view.ty.Contents (Elt F)) (H : dst.view.ty.Contents (Elt F))
    (hN : dst.view.dmaCredit = units d)
    (hsp : sendPay m ρ c d = iprop(src.view.loc (c : Thread nD τ) ↦[src.view.set]{q} fs))
    (hland : land (F := F) (nbr c d) (opp d) = iprop(∃ f, dst.view.loc ((nbr c d : Dev nD) : Thread nD τ) ↦[dst.view.set]{fullShare} f))
    (hrecv : recvPay m ρ (nbr c d) (opp d) = iprop(dst.view.loc ((nbr c d : Dev nD) : Thread nD τ) ↦[dst.view.set]{fullShare} H))
    (hval : ∀ f, ∀ i ∈ dst.view.set, dst.view.write (Elt F) f (src.view.read (Elt F) fs) Finset.univ i = H i)
    (P : sProp 𝕄) (O : CellTallies nD τ sig Unit)
    {α : Type} {Q : α → sProp 𝕄} {k : Prog (TpuEff nD τ sig (Elt F) Λ₀ .tc) α} :
    iprop(recs m ρ K ∗ (opt c d (sendPay m ρ c d) ∗ keep c d P) ∗ opt c d (land (nbr c d) (opp d)) ∗ owe c (O + oS c d)
        ∗ dutyTok EH (sendC c d) 0 d ∗ dutyTok EH (recvC (nbr c d) (opp d)) 0 (opp d))
      ⊢ iprop(((owe c O ∗ opt c d (cred (tallyAt (sendC c d) () (units d))) ∗ keep c d P) -∗ wpc c k Q)
          -∗ wpc c (if h : φ then .op (.enqueueDma src (.remote (Dev.tc (n h) : Thread nD τ) dst (.dma sS) (hsc h)) (.dma sR) hsrc (hdst h) (hsem h)) (fun _ => k) else k) Q) := by
  by_cases h : φ
  · have hd := hφ.mp h
    rw [dif_pos h, opt_pos hd, keep_pos hd, opt_pos hd, opt_pos hd]
    iintro ⟨#HR, ⟨Hsrc, -⟩, Hl, HO, HtS, HtR⟩ Hk
    iapply (wp_copy m ρ K c (n h) d hd (hn h) hS hRv fs H hN hsp hland hrecv hval O) $$ [Hsrc Hl HO HtS HtR]
    · isplitr; · iexact HR
      isplitl [Hsrc]; · iexact Hsrc
      isplitl [Hl]; · iexact Hl
      isplitl [HO]; · iexact HO
      isplitl [HtS] <;> iassumption
    iintro ⟨HO, Hc⟩
    iapply Hk
    isplitl [HO]; · iexact HO
    isplitl; · iexact Hc
    iempintro
  · have hd : ¬ Has c d := fun h' => h (hφ.mpr h')
    rw [dif_neg h, opt_neg hd, keep_neg hd, opt_neg hd, opt_neg hd]
    unfold oS; rw [if_neg hd, add_zero]
    iintro ⟨-, ⟨-, HP⟩, -, HO, -, -⟩ Hk
    iapply Hk
    isplitl [HO]; · iexact HO
    isplitr; · iempintro
    iexact HP

/-- The wait for the own copy, made only if the neighbour exists. -/
theorem wp_sent_if (c : Dev nD) (d : Fin 4) {φ : Prop} [Decidable φ] (hφ : φ ↔ Has c d) {sp sp' : Space} {s s' : Shape} {e e' : EltTy} {sm : DmaSem sig}
    (hs : sm = sendS c d) {src : Memref sig .tc sp' s' e'} {dst : Memref sig .tc sp s e} {hsrc : src.view.WordExact} {hdst : dst.view.WordExact}
    (hN : dst.view.dmaCredit = units d) {α : Type} {Q : α → sProp 𝕄} {k : Prog (TpuEff nD τ sig (Elt F) Λ₀ .tc) α} :
    iprop(recs m ρ K ∗ owe c 0 ∗ atPos EH (sendC c d) 0 ∅ 0 ∗ opt c d (cred (tallyAt (sendC c d) () (units d))))
      ⊢ iprop(((owe c 0 ∗ semVal (sendC c d) 0 ∗ opt c d (sendPay m ρ c d)) -∗ wpc c k Q)
          -∗ wpc c (if h : φ then .op (.waitDma2 sm src dst hsrc hdst) (fun _ => k) else k) Q) := by
  by_cases h : φ
  · have hd := hφ.mp h
    rw [dif_pos h, opt_pos hd, opt_pos hd]
    exact wp_sent m ρ K c d hd hs hN (k := fun _ => k)
  · have hd : ¬ Has c d := fun h' => h (hφ.mpr h')
    rw [dif_neg h, opt_neg hd, opt_neg hd]
    iintro ⟨#HR, HO, Hat, -⟩ Hk
    imod (close_unused m ρ K (c, some (0, d)) (duties_send_none m ρ c d hd)) $$ [Hat] with Hz
    · isplitr; · iexact HR
      iexact Hat
    iapply Hk
    isplitl [HO]; · iexact HO
    isplitl; · iexact Hz
    iempintro

/-! ## Local steps -/

/-- A z face packed into its slot, if the neighbour exists. -/
theorem wp_pack (c : Dev nD) (d : Fin 4) (j : ℕ) {φ : Prop} [Decidable φ] (hφ : φ ↔ Has c d) {rs : Rect S32x32x32} {rd : Rect S2x32x32x1}
    {w : (rs.shape.Idx → Elt F .f32) → (rd.shape.Idx → Elt F .f32)}
    {h1 : uM.view.LoadsAt rs.toLoadRect} {h2 : szM.view.LoadsAt rd.toLoadRect} {h3 : (szM.access rd).Stores Finset.univ} {h4}
    (hset : rd.set = slot ![2, 32, 32, 1] j)
    (hpay : sendPay m ρ c d = iprop(szL c ↦[slot ![2, 32, 32, 1] j]{fullShare} SZ m ρ c))
    (hval : ∀ g, ∀ i ∈ slot ![2, 32, 32, 1] j, (szM.access rd).write (Elt F) g (w (uM.view.readAt (Elt F) rs.toLoadRect (X m ρ c))) Finset.univ i = SZ m ρ c i)
    {α : Type} {Q : α → sProp 𝕄} {k : Prog (TpuEff nD τ sig (Elt F) Λ₀ .tc) α} :
    iprop((uL c ↦[Finset.univ]{ql} X m ρ c) ∗ ∃ g, szL c ↦[slot ![2, 32, 32, 1] j]{fullShare} g)
      ⊢ iprop((((uL c ↦[Finset.univ]{ql} X m ρ c) ∗ opt c d (sendPay m ρ c d) ∗ keep c d iprop(∃ g, szL c ↦[slot ![2, 32, 32, 1] j]{fullShare} g)) -∗ wpc c k Q)
          -∗ wpc c (if h : φ then .op (.load uM rs.toLoadRect h1) (fun v => .op (.load szM rd.toLoadRect h2) (fun _ =>
              .op (.store szM rd (w v) Finset.univ h3 h4) (fun _ => k))) else k) Q) := by
  by_cases h : φ
  · have hd := hφ.mp h
    have hsub : (szM.access rd).set ⊆ slot ![2, 32, 32, 1] j := by
      rw [show (szM.access rd).set = rd.set from View.set_slice_whole cc0_scratch3 rd, hset]
    rw [dif_pos h, opt_pos hd, keep_pos hd, hpay]
    iintro ⟨Hu, ⟨%g, Hz⟩⟩ Hk
    iapply (wp_load 𝒱₀ (c : Thread nD τ) none Set.univ (m := uM) (Finset.subset_univ _)) $$ Hu; iintro Hu
    iapply (wp_load_rect 𝒱₀ (c : Thread nD τ) none Set.univ (m := szM) hsub) $$ Hz; iintro Hz
    iapply (wp_store 𝒱₀ (c : Thread nD τ) none Set.univ (m := szM) (r := rd) (Mk := Finset.univ) hsub) $$ Hz; iintro Hz
    iapply Hk
    isplitl [Hu]; · iexact Hu
    isplitl
    · iapply (Entails.of_eq (pointsTo_congr (hval g))); iexact Hz
    · iempintro
  · have hd : ¬ Has c d := fun h' => h (hφ.mpr h')
    rw [dif_neg h, opt_neg hd, keep_neg hd]
    iintro ⟨Hu, Hz⟩ Hk
    iapply Hk
    isplitl [Hu]; · iexact Hu
    isplitr; · iempintro
    iexact Hz

/-- The result block after a step that rewrites one box of it by `w`, if `b` holds. -/
def fstep (b : Prop) [Decidable b] (ro : Rect S32x32x32) (w : (ro.shape.Idx → Elt F .f32) → (ro.shape.Idx → Elt F .f32))
    (o : S32x32x32.Idx → Elt F .f32) : S32x32x32.Idx → Elt F .f32 :=
  if b then (oM.access ro).write (Elt F) o (w (oM.view.readAt (Elt F) ro.toLoadRect o)) Finset.univ else o

/-- A landed face worked into the result. -/
theorem wp_face (c : Dev nD) {b : Prop} [Decidable b] {φ : Prop} [Decidable φ] (hφ : φ ↔ b) {sH : Shape} {M : Memref sig .tc .vmem sH .f32}
    {ro : Rect S32x32x32} {rh : Rect sH} {w : (ro.shape.Idx → Elt F .f32) → (rh.shape.Idx → Elt F .f32) → (ro.shape.Idx → Elt F .f32)}
    {h1 : oM.view.LoadsAt ro.toLoadRect} {h2 : M.view.LoadsAt rh.toLoadRect} {h3 : (oM.access ro).Stores Finset.univ} {h4}
    {S : Finset (Idx (M.view.loc (c : Thread nD τ)))} {q : PosShare TreeShare} {H : Buf (Elt F) (M.view.loc (c : Thread nD τ))}
    (hS : b → (M.access rh).set ⊆ S) (o : S32x32x32.Idx → Elt F .f32)
    {α : Type} {Q : α → sProp 𝕄} {k : Prog (TpuEff nD τ sig (Elt F) Λ₀ .tc) α} :
    iprop((oL c ↦[Finset.univ]{fullShare} o) ∗ (M.view.loc (c : Thread nD τ) ↦[S]{q} H))
      ⊢ iprop((((oL c ↦[Finset.univ]{fullShare} fstep b ro (fun a => w a (M.view.readAt (Elt F) rh.toLoadRect H)) o) ∗ (M.view.loc (c : Thread nD τ) ↦[S]{q} H)) -∗ wpc c k Q)
          -∗ wpc c (if h : φ then .op (.load oM ro.toLoadRect h1) (fun a => .op (.load M rh.toLoadRect h2) (fun v =>
              .op (.load oM ro.toLoadRect h1) (fun _ => .op (.store oM ro (w a v) Finset.univ h3 h4) (fun _ => k)))) else k) Q) := by
  unfold fstep
  by_cases h : φ
  · rw [dif_pos h, if_pos (hφ.mp h)]
    iintro ⟨Ho, Hh⟩ Hk
    iapply (wp_load 𝒱₀ (c : Thread nD τ) none Set.univ (m := oM) (Finset.subset_univ _)) $$ Ho; iintro Ho
    iapply (wp_load_rect 𝒱₀ (c : Thread nD τ) none Set.univ (m := M) (hS (hφ.mp h))) $$ Hh; iintro Hh
    iapply (wp_load 𝒱₀ (c : Thread nD τ) none Set.univ (m := oM) (Finset.subset_univ _)) $$ Ho; iintro Ho
    iapply (wp_store 𝒱₀ (c : Thread nD τ) none Set.univ (m := oM) (r := ro) (Mk := Finset.univ) (Finset.subset_univ _)) $$ Ho; iintro Ho
    iapply Hk
    isplitl [Ho]; · iexact Ho
    iexact Hh
  · rw [dif_neg h, if_neg (fun h' => h (hφ.mpr h'))]
    iintro H Hk
    iapply Hk; iexact H

/-- The wait for a z neighbour's face and its working into the result, if the neighbour exists; `P` stands in for the
    landed face if it does not. -/
theorem wp_zface (c : Dev nD) (d : Fin 4) (j : ℕ) {φ : Prop} [Decidable φ] (hφ : φ ↔ Has c d) {sm : DmaSem sig} (hs : sm = recvS c d)
    {sp sp' : Space} {s s' : Shape} {e e' : EltTy}
    {src : Memref sig .tc sp' s' e'} {dst : Memref sig .tc sp s e} {hsrc : src.view.WordExact} {hdst : dst.view.WordExact}
    (hN : dst.view.dmaCredit = units d)
    {ro : Rect S32x32x32} {rh : Rect S2x32x32x1} {w : (ro.shape.Idx → Elt F .f32) → (rh.shape.Idx → Elt F .f32) → (ro.shape.Idx → Elt F .f32)}
    {h1 : oM.view.LoadsAt ro.toLoadRect} {h2 : hzM.view.LoadsAt rh.toLoadRect} {h3 : (oM.access ro).Stores Finset.univ} {h4}
    (hset : rh.set = slot ![2, 32, 32, 1] j)
    (hpay : recvPay m ρ c d = iprop(hzL c ↦[slot ![2, 32, 32, 1] j]{fullShare} HZ m ρ c)) (o : S32x32x32.Idx → Elt F .f32)
    {α : Type} {Q : α → sProp 𝕄} {k : Prog (TpuEff nD τ sig (Elt F) Λ₀ .tc) α} :
    iprop(recs m ρ K ∗ owe c 0 ∗ atPos EH (recvC c d) 0 ∅ 0 ∗ opt c d (cred (tallyAt (recvC c d) () (units d))) ∗ (oL c ↦[Finset.univ]{fullShare} o))
      ⊢ iprop(((owe c 0 ∗ semVal (recvC c d) 0 ∗ opt c d (recvPay m ρ c d)
            ∗ (oL c ↦[Finset.univ]{fullShare} fstep (Has c d) ro (fun a => w a (hzM.view.readAt (Elt F) rh.toLoadRect (HZ m ρ c))) o)) -∗ wpc c k Q)
          -∗ wpc c (if h : φ then .op (.waitDma2 sm src dst hsrc hdst) (fun _ => .op (.load oM ro.toLoadRect h1) (fun a => .op (.load hzM rh.toLoadRect h2) (fun v =>
              .op (.load oM ro.toLoadRect h1) (fun _ => .op (.store oM ro (w a v) Finset.univ h3 h4) (fun _ => k))))) else k) Q) := by
  unfold fstep
  by_cases h : φ
  · have hd := hφ.mp h
    have hsub : (hzM.access rh).set ⊆ slot ![2, 32, 32, 1] j := by
      rw [show (hzM.access rh).set = rh.set from View.set_slice_whole cc0_scratch2 rh, hset]
    rw [dif_pos h, if_pos hd, opt_pos hd, opt_pos hd]
    iintro ⟨#HR, HO, Hat, Hc, Ho⟩ Hk
    iapply (wp_recv m ρ K c d hd hs hN) $$ [HO Hat Hc]
    · isplitr; · iexact HR
      isplitl [HO]; · iexact HO
      isplitl [Hat] <;> iassumption
    rw [hpay]
    iintro ⟨HO, Hz, Hh⟩
    iapply (wp_load 𝒱₀ (c : Thread nD τ) none Set.univ (m := oM) (Finset.subset_univ _)) $$ Ho; iintro Ho
    iapply (wp_load_rect 𝒱₀ (c : Thread nD τ) none Set.univ (m := hzM) hsub) $$ Hh; iintro Hh
    iapply (wp_load 𝒱₀ (c : Thread nD τ) none Set.univ (m := oM) (Finset.subset_univ _)) $$ Ho; iintro Ho
    iapply (wp_store 𝒱₀ (c : Thread nD τ) none Set.univ (m := oM) (r := ro) (Mk := Finset.univ) (Finset.subset_univ _)) $$ Ho; iintro Ho
    iapply Hk
    isplitl [HO]; · iexact HO
    isplitl [Hz]; · iexact Hz
    isplitl [Hh]; · iexact Hh
    iexact Ho
  · have hd : ¬ Has c d := fun h' => h (hφ.mpr h')
    rw [dif_neg h, if_neg hd, opt_neg hd, opt_neg hd]
    iintro ⟨#HR, HO, Hat, -, Ho⟩ Hk
    imod (close_unused m ρ K (c, some (1, d)) (duties_recv_none m ρ c d hd)) $$ [Hat] with Hz
    · isplitr; · iexact HR
      iexact Hat
    iapply Hk
    isplitl [HO]; · iexact HO
    isplitl [Hz]; · iexact Hz
    isplitr; · iempintro
    iexact Ho

end Cert.Halo

end
-- ==== Proof.Views.lean ====
/-
The kernel's own views and the words it computes: what they denote.
-/
module

public import proofs.«01_k».proof.Proof.Rules

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ)

/-! ## The words the kernel computes from its device number -/

abbrev w2 (c : Dev nD) : BitVec 32 := Scalar.remsi (Scalar.divsi (Dev.word c) 8#32) 2#32
abbrev w5 (c : Dev nD) : BitVec 32 := Scalar.remsi (Scalar.divsi (Dev.word c) 4#32) 2#32
abbrev w8 (c : Dev nD) : BitVec 32 := Scalar.remsi (Scalar.divsi (Dev.word c) 1#32) 4#32
abbrev w9 (c : Dev nD) : BitVec 1 := Scalar.cmpi .sgt (w8 c) 0#32
abbrev w10 (c : Dev nD) : BitVec 1 := Scalar.cmpi .slt (w8 c) 3#32

/-- The word test the kernel makes of a truth bit. -/
abbrev tst (b : BitVec 1) : BitVec 1 := Scalar.cmpi .ne (Scalar.extui b) (0#32)

theorem tst_w9 : ∀ c : Dev nD, tst (w9 c) = 1#1 ↔ Has c 2 := by decide +kernel
theorem tst_w10 : ∀ c : Dev nD, tst (w10 c) = 1#1 ↔ Has c 3 := by decide +kernel

theorem one_toInt : (1#32 : BitVec 32).toInt = ((1 : ℕ) : ℤ) := by decide

theorem wpc_ret (c : Dev nD) {α : Type} (a : α) (Q : α → sProp 𝕄) : Q a ⊢ wpc c (.ret a) Q := by
  unfold wpc; rw [wp_ret]; iintro H; imodintro; iexact H

/-! ## The packed faces and the copies, in the program's own views -/

/-- Writing a slot of the packing buffer. -/
theorem write_slot {rd : Rect S2x32x32x1} {k : ℕ} (hset : rd.set = slot ![2, 32, 32, 1] k) (g H : (cc0_scratch3 : Ref sig .tc).ty.Contents (Elt F))
    (w : rd.shape.Idx → Elt F .f32) (h : ∀ y, H (rd.emb y) = w y) :
    ∀ i ∈ slot ![2, 32, 32, 1] k, (szM.access rd).write (Elt F) g w Finset.univ i = H i := by
  have hs : (szM.access rd).set = slot ![2, 32, 32, 1] k := by
    rw [show (szM.access rd).set = rd.set from View.set_slice_whole cc0_scratch3 rd, hset]
  rw [← hs]
  exact write_eq_of_read (szM.access rd) g H w h

/-- Packing keeps the entries. -/
theorem pay5_apply (v : Vec F S32x32x1 .f32) (u : Fin 1) (x y : Fin 32) (z : Fin 1) : k0_pay5 v (ix4 u x y z) = v (ix3 x y z) := by
  unfold k0_pay5
  rw [shapeCast_abc_1abc_apply, shapeCast_self]

/-- The z face at coordinate `p`, read from the block. -/
theorem block_z {p : ℕ} (hp : p < 32) (c : Dev nD) {os : Fin 3 → ℕ} (hos : os = ![0, 0, p]) (is : ∀ x, os x + S32x32x1.size x ≤ S32x32x32.size x) (x y : Fin 32) :
    uM.view.readAt (Elt F) (Rect.unit (s := S32x32x32) os S32x32x1.size is).toLoadRect (X m ρ c) (ix3 x y (0 : Fin 1)) = X m ρ c (ix3 x y (⟨p, hp⟩ : Fin 32)) := by
  have hx : 0 + x.val < 32 := by omega
  have hy : 0 + y.val < 32 := by omega
  refine (congrArg (X m ρ c) (box_emb hos is x y (0 : Fin 1) hx hy (by simpa using hp))).trans ?_
  have ex : (⟨0 + x.val, hx⟩ : Fin 32) = x := Fin.ext (Nat.zero_add _)
  have ey : (⟨0 + y.val, hy⟩ : Fin 32) = y := Fin.ext (Nat.zero_add _)
  rw [ex, ey]; rfl

/-- A packed face holds the block's entries. -/
theorem packed {p k : ℕ} (hp : p < 32) (hk : k < 2) (c : Dev nD) {os : Fin 3 → ℕ} {od : Fin 4 → ℕ} (hos : os = ![0, 0, p]) (hod : od = ![k, 0, 0, 0])
    (is : ∀ x, os x + S32x32x1.size x ≤ S32x32x32.size x) (id : ∀ x, od x + S1x32x32x1.size x ≤ S2x32x32x1.size x)
    (hz : ∀ x y : Fin 32, SZ m ρ c (ix4 (⟨k, hk⟩ : Fin 2) x y (0 : Fin 1)) = X m ρ c (ix3 x y (⟨p, hp⟩ : Fin 32))) (g : (cc0_scratch3 : Ref sig .tc).ty.Contents (Elt F)) :
    ∀ i ∈ slot ![2, 32, 32, 1] k, (szM.access (Rect.unit (s := S2x32x32x1) od S1x32x32x1.size id)).write (Elt F) g
      (k0_pay5 (uM.view.readAt (Elt F) (Rect.unit (s := S32x32x32) os S32x32x1.size is).toLoadRect (X m ρ c))) Finset.univ i = SZ m ρ c i := by
  refine write_slot (slab_set hod id) g (SZ m ρ c) _ fun y => ?_
  obtain ⟨a, b, d, rfl⟩ : ∃ (a : Fin 1) (b d : Fin 32), y = ix4 a b d (0 : Fin 1) :=
    ⟨y 0, y 1, y 2, (eq_ix4 y).trans (congrArg (ix4 (y 0 : Fin 1) (y 1 : Fin 32) (y 2 : Fin 32)) (Subsingleton.elim (α := Fin 1) _ _))⟩
  exact (congrArg (SZ m ρ c) (slab_emb hk hod id a b d (0 : Fin 1))).trans
    ((hz b d).trans ((pay5_apply _ a b d 0).trans (block_z m ρ hp c hos is b d)).symm)

theorem SZ_first (c : Dev nD) (x y : Fin 32) (z : Fin 1) : SZ m ρ c (ix4 (0 : Fin 2) x y z) = X m ρ c (ix3 x y (edge 1)) := if_pos rfl
theorem SZ_last (c : Dev nD) (x y : Fin 32) (z : Fin 1) : SZ m ρ c (ix4 (1 : Fin 2) x y z) = X m ρ c (ix3 x y (edge 0)) :=
  if_neg (by show ¬ ((1 : Fin 2) : ℕ) = 0; decide)

theorem sendPay_x (c : Dev nD) : sendPay m ρ c 0 = iprop((srcX c).view.loc (c : Thread nD τ) ↦[(srcX c).view.set]{qx} X m ρ c) := by
  rw [srcX_set]; rfl
theorem sendPay_y (c : Dev nD) : sendPay m ρ c 1 = iprop((srcY c).view.loc (c : Thread nD τ) ↦[(srcY c).view.set]{qy} X m ρ c) := by
  rw [srcY_set]; rfl
theorem sendPay_z0 (c : Dev nD) {off : Fin 4 → ℕ} (h : off = ![0, 0, 0, 0]) (inb) :
    sendPay m ρ c 2 = iprop((pAt off inb).view.loc (c : Thread nD τ) ↦[(pAt off inb).view.set]{fullShare} SZ m ρ c) := by
  rw [pAt_set h]; rfl
theorem sendPay_z1 (c : Dev nD) {off : Fin 4 → ℕ} (h : off = ![1, 0, 0, 0]) (inb) :
    sendPay m ρ c 3 = iprop((pAt off inb).view.loc (c : Thread nD τ) ↦[(pAt off inb).view.set]{fullShare} SZ m ρ c) := by
  rw [pAt_set h]; rfl

/-- The landing part on the neighbour's side, as the copy's destination: at any contents, and with the face in it. -/
theorem land_x (c : Dev nD) {off : Fin 4 → ℕ} (h : off = ![mx c, 0, 0, 0]) (inb) :
    land (F := F) (nbr c 0) 0 = iprop(∃ f, (xAt off inb).view.loc ((nbr c 0 : Dev nD) : Thread nD τ) ↦[(xAt off inb).view.set]{fullShare} f) := by
  rw [xAt_set h]
  have hm : 1 - mx (nbr c 0) = mx c := by rw [mx_nbr]; have := mx_lt c; omega
  show iprop(∃ f, hxL (nbr c 0) ↦[slot _ (1 - mx (nbr c 0))]{fullShare} f) = _
  rw [hm]
theorem recvPay_x (c : Dev nD) {off : Fin 4 → ℕ} (h : off = ![mx c, 0, 0, 0]) (inb) :
    recvPay m ρ (nbr c 0) 0 = iprop((xAt off inb).view.loc ((nbr c 0 : Dev nD) : Thread nD τ) ↦[(xAt off inb).view.set]{fullShare} HX m ρ (nbr c 0)) := by
  rw [xAt_set h]
  have hm : 1 - mx (nbr c 0) = mx c := by rw [mx_nbr]; have := mx_lt c; omega
  show iprop(hxL (nbr c 0) ↦[slot _ (1 - mx (nbr c 0))]{fullShare} HX m ρ (nbr c 0)) = _
  rw [hm]
theorem land_y (c : Dev nD) {off : Fin 4 → ℕ} (h : off = ![my c, 0, 0, 0]) (inb) :
    land (F := F) (nbr c 1) 1 = iprop(∃ f, (yAt off inb).view.loc ((nbr c 1 : Dev nD) : Thread nD τ) ↦[(yAt off inb).view.set]{fullShare} f) := by
  rw [yAt_set h]
  have hm : 1 - my (nbr c 1) = my c := by rw [my_nbr]; have := my_lt c; omega
  show iprop(∃ f, hyL (nbr c 1) ↦[slot _ (1 - my (nbr c 1))]{fullShare} f) = _
  rw [hm]
theorem recvPay_y (c : Dev nD) {off : Fin 4 → ℕ} (h : off = ![my c, 0, 0, 0]) (inb) :
    recvPay m ρ (nbr c 1) 1 = iprop((yAt off inb).view.loc ((nbr c 1 : Dev nD) : Thread nD τ) ↦[(yAt off inb).view.set]{fullShare} HY m ρ (nbr c 1)) := by
  rw [yAt_set h]
  have hm : 1 - my (nbr c 1) = my c := by rw [my_nbr]; have := my_lt c; omega
  show iprop(hyL (nbr c 1) ↦[slot _ (1 - my (nbr c 1))]{fullShare} HY m ρ (nbr c 1)) = _
  rw [hm]
theorem land_z0 (n : Dev nD) {off : Fin 4 → ℕ} (h : off = ![0, 0, 0, 0]) (inb) :
    land (F := F) n 2 = iprop(∃ f, (zAt off inb).view.loc (n : Thread nD τ) ↦[(zAt off inb).view.set]{fullShare} f) := by
  rw [zAt_set h]; rfl
theorem land_z1 (n : Dev nD) {off : Fin 4 → ℕ} (h : off = ![1, 0, 0, 0]) (inb) :
    land (F := F) n 3 = iprop(∃ f, (zAt off inb).view.loc (n : Thread nD τ) ↦[(zAt off inb).view.set]{fullShare} f) := by
  rw [zAt_set h]; rfl
theorem recvPay_z0 (n : Dev nD) {off : Fin 4 → ℕ} (h : off = ![0, 0, 0, 0]) (inb) :
    recvPay m ρ n 2 = iprop((zAt off inb).view.loc (n : Thread nD τ) ↦[(zAt off inb).view.set]{fullShare} HZ m ρ n) := by
  rw [zAt_set h]; rfl
theorem recvPay_z1 (n : Dev nD) {off : Fin 4 → ℕ} (h : off = ![1, 0, 0, 0]) (inb) :
    recvPay m ρ n 3 = iprop((zAt off inb).view.loc (n : Thread nD τ) ↦[(zAt off inb).view.set]{fullShare} HZ m ρ n) := by
  rw [zAt_set h]; rfl

/-- Any view of one slot counts as many units as the sides it serves. -/
theorem credit_x {off : Fin 4 → ℕ} (inb) : (xAt off inb).view.dmaCredit = units 0 := rfl
theorem credit_y {off : Fin 4 → ℕ} (inb) : (yAt off inb).view.dmaCredit = units 1 := rfl
theorem credit_z0 {off : Fin 4 → ℕ} (inb) : (zAt off inb).view.dmaCredit = units 2 := rfl
theorem credit_z1 {off : Fin 4 → ℕ} (inb) : (zAt off inb).view.dmaCredit = units 3 := rfl

/-- The barrier waits for one unit from each existing neighbour. -/
theorem amt_card : ∀ c : Dev nD, (k0_amt1 c).toInt = (((Finset.univ.filter (Has c)).card : ℕ) : ℤ) := by decide +kernel

/-- The tokens of a copy to side `d`: of the own sending semaphore and of the neighbour's receiving one. -/
abbrev copyTok (c : Dev nD) (d : Fin 4) : sProp 𝕄 := iprop(dutyTok EH (sendC c d) 0 d ∗ dutyTok EH (recvC (nbr c d) (opp d)) 0 (opp d))
/-- One slot of the packing buffer, at any contents. -/
abbrev anyZ (c : Dev nD) (k : ℕ) : sProp 𝕄 := iprop(∃ g, szL c ↦[slot ![2, 32, 32, 1] k]{fullShare} g)
/-- What waiting for the own copy to side `d` costs. -/
abbrev sentCr (c : Dev nD) (d : Fin 4) : sProp 𝕄 := opt c d (cred (tallyAt (sendC c d) () (units d)))
/-- What waiting for the neighbour's copy costs. -/
abbrev recvCr (c : Dev nD) (d : Fin 4) : sProp 𝕄 := opt c d (cred (tallyAt (recvC c d) () (units d)))

end Cert.Halo

end
-- ==== Proof.Parts.lean ====
/-
The kernel's body, part by part.
-/
module

public import proofs.«01_k».proof.Proof.Views

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ)

/-- The barrier's tokens and landing parts of one side, before and after the signals. -/
abbrev barTok (c : Dev nD) (d : Fin 4) : sProp 𝕄 := dutyTok EH (barC (nbr c d)) 0 (opp d)

theorem part1 (c : Dev nD) (Q : _ → sProp 𝕄) :
    iprop(recs m ρ K ∗ owe c (O₀ c) ∗ (barTok c 0 ∗ barTok c 1 ∗ barTok c 2 ∗ barTok c 3) ∗ (land c 0 ∗ land c 1 ∗ land c 2 ∗ land c 3)
        ∗ ((owe c (O₁ c) ∗ keep c 2 (land c 2) ∗ keep c 3 (land c 3))
            -∗ Q ⟨c, w2 c, w5 c, w8 c, w9 c, w10 c, SemArray.scalar (sig.barrier 0 rfl), tst (w9 c)⟩))
      ⊢ wpc c (k0_part1 (F := F) uM (Memref.isWhole_whole _) oM (Memref.isWhole_whole _) hxM (Memref.isWhole_whole _) hyM (Memref.isWhole_whole _)
          hzM (Memref.isWhole_whole _) szM (Memref.isWhole_whole _) cc0_scratch4 cc0_scratch5 cc0_scratch6 cc0_scratch7 cc0_scratch8 cc0_scratch9) Q := by
  simp only [k0_part1_eq_skeleton]; unfold k0_part1_skel
  simp only [semSignalWord, semWaitWord, Prog.lift, Prog.bind_op, Prog.bind_ret, Prog.pure_eq_ret, wp_deviceId, one_toInt]
  unfold O₀
  iintro ⟨#HR, HO, ⟨Ht0, Ht1, Ht2, Ht3⟩, ⟨Hl0, Hl1, Hl2, Hl3⟩, Hk⟩
  iapply (wp_sig m ρ K c _ 0 trivial (dev1_eq c) _) $$ [HO Ht0 Hl0]
  · isplitr; · iexact HR
    isplitl [HO]; · iexact HO
    isplitl [Ht0] <;> iassumption
  iintro HO
  iapply (wp_sig m ρ K c _ 1 trivial (dev2_eq c) _) $$ [HO Ht1 Hl1]
  · isplitr; · iexact HR
    isplitl [HO]; · iexact HO
    isplitl [Ht1] <;> iassumption
  iintro HO
  iapply (wp_sig_if m ρ K c 2 (cond1_iff c) (fun h => (⟨k0_dev3 c, k0_dev3_lt c h⟩ : Dev nD)) (dev3_eq c) _) $$ [HO Ht2 Hl2]
  · isplitr; · iexact HR
    isplitl [HO]; · iexact HO
    isplitl [Ht2] <;> iassumption
  iintro ⟨HO, Hl2⟩
  iapply (wp_sig_if m ρ K c 3 (cond2_iff c) (fun h => (⟨k0_dev4 c, k0_dev4_lt c h⟩ : Dev nD)) (dev4_eq c) _) $$ [HO Ht3 Hl3]
  · isplitr; · iexact HR
    isplitl [HO]; · iexact HO
    isplitl [Ht3] <;> iassumption
  iintro ⟨HO, Hl3⟩
  iapply (wpc_ret c)
  iapply Hk
  isplitl [HO]; · iexact HO
  isplitl [Hl2] <;> iassumption

end Cert.Halo

end
-- ==== Proof.Copies.lean ====
/-
The kernel's body: packing, the barrier's wait and the copies.
-/
module

public import proofs.«01_k».proof.Proof.Views

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ)

/-- Packing, the barrier's wait, and the x copy. -/
theorem part2 (c : Dev nD) (Q : _ → sProp 𝕄) :
    iprop(recs m ρ K ∗ levAts L lv ∗ (uL c ↦[Finset.univ]{ql} X m ρ c) ∗ anyZ c 0 ∗ anyZ c 1 ∗ owe c (O₁ c) ∗ atPos EH (barC c) 0 ∅ 0
        ∗ cred (tallyAt (barC c) () (Finset.univ.filter (Has c)).card) ∗ sendPay m ρ c 0 ∗ copyTok c 0
        ∗ (((uL c ↦[Finset.univ]{ql} X m ρ c) ∗ (opt c 2 (sendPay m ρ c 2) ∗ keep c 2 (anyZ c 0)) ∗ (opt c 3 (sendPay m ρ c 3) ∗ keep c 3 (anyZ c 1))
            ∗ owe c (oS c 3 + oS c 2 + oS c 1) ∗ semVal (barC c) 0 ∗ sentCr c 0
            ∗ opt c 1 (land (nbr c 1) 1) ∗ opt c 2 (land (nbr c 2) 3) ∗ opt c 3 (land (nbr c 3) 2))
            -∗ Q ⟨⟩))
      ⊢ wpc c (k0_part2 (F := F) uM (Memref.isWhole_whole _) oM (Memref.isWhole_whole _) hxM (Memref.isWhole_whole _) hyM (Memref.isWhole_whole _)
          hzM (Memref.isWhole_whole _) szM (Memref.isWhole_whole _) cc0_scratch4 cc0_scratch5 cc0_scratch6 cc0_scratch7 cc0_scratch8 cc0_scratch9
          c (w2 c) (w5 c) (w8 c) (w9 c) (w10 c) (SemArray.scalar (sig.barrier 0 rfl)) (tst (w9 c))) Q := by
  simp only [k0_part2_eq_skeleton]; unfold k0_part2_skel
  simp -proj only [semSignalWord, semWaitWord, Prog.lift, Prog.bind_op, Prog.bind_ret, Prog.pure_eq_ret, wp_deviceId, one_toInt]
  iintro ⟨#HR, #Hlev, Hu, Hz0, Hz1, HO, Hat, Hcr, Hsx, ⟨HtS, HtR⟩, Hk⟩
  iapply (wp_pack m ρ c 2 0 (tst_w9 c) (rs := Rect.unit (s := S32x32x32) ![0, 0, 0] S32x32x1.size inb_S32x32x32_S32x32x1_0_0_0)
    (rd := Rect.unit (s := S2x32x32x1) ![0, 0, 0, 0] S1x32x32x1.size inb_S2x32x32x1_S1x32x32x1_0_0_0_0) (w := k0_pay5) (slab_set rfl _) rfl
    (packed m ρ (p := 0) (k := 0) (by decide) (by decide) c rfl rfl _ _ (fun x y => SZ_first m ρ c x y 0))) $$ [Hu Hz0]
  · isplitl [Hu] <;> iassumption
  iintro ⟨Hu, Hp0⟩
  iapply (wp_pack m ρ c 3 1 (tst_w10 c) (rs := Rect.unit (s := S32x32x32) ![0, 0, 31] S32x32x1.size inb_S32x32x32_S32x32x1_0_0_31)
    (rd := Rect.unit (s := S2x32x32x1) ![1, 0, 0, 0] S1x32x32x1.size inb_S2x32x32x1_S1x32x32x1_1_0_0_0) (w := k0_pay5) (slab_set rfl _) rfl
    (packed m ρ (p := 31) (k := 1) (by decide) (by decide) c rfl rfl _ _ (fun x y => SZ_last m ρ c x y 0))) $$ [Hu Hz1]
  · isplitl [Hu] <;> iassumption
  iintro ⟨Hu, Hp1⟩
  iapply (wp_barwait m ρ K c _ (amt_card c)) $$ [HO Hat Hcr]
  · isplitr; · iexact HR
    isplitr; · iexact Hlev
    isplitl [HO]; · iexact HO
    isplitl [Hat] <;> iassumption
  rw [bigSep_sides]
  iintro ⟨HO, Hb, Hl0, Hl1, Hl2, Hl3⟩
  ihave Hl0 := (Entails.of_eq (opt_pos (c := c) (d := 0) trivial _)) $$ Hl0
  unfold O₁
  iapply (wp_copy m ρ K c ⟨k0_dev5 c, k0_dev5_lt c⟩ 0 trivial (dev5_eq c) (src := srcX c) (dst := xAt (k0_off2 c) (k0_off2_inb c)) (sem_sx c) (sem_rx c)
      (hsc := rfl) (hsrc := View.wordExact_bits rfl) (hdst := (View.wordExact_bits rfl).reshape _ _) (hsem := ⟨⟨rfl, Or.inl rfl⟩, trivial⟩) (q := qx) (X m ρ c) (HX m ρ (nbr c 0)) (credit_x (k0_off2_inb c)) (sendPay_x m ρ c)
      (land_x c (k0_off2_eq c) (k0_off2_inb c)) (recvPay_x m ρ c (k0_off2_eq c) (k0_off2_inb c)) (landedX m ρ c (k0_off2_eq c) (k0_off2_inb c)) (oS c 3 + oS c 2 + oS c 1)) $$ [Hsx Hl0 HO HtS HtR]
  · isplitr; · iexact HR
    isplitl [Hsx]; · iexact Hsx
    isplitl [Hl0]; · iexact Hl0
    isplitl [HO]; · iexact HO
    isplitl [HtS] <;> iassumption
  iintro ⟨HO, Hc0⟩
  iapply (wpc_ret c)
  iapply Hk
  isplitl [Hu]; · iexact Hu
  isplitl [Hp0]; · iexact Hp0
  isplitl [Hp1]; · iexact Hp1
  isplitl [HO]; · iexact HO
  isplitl [Hb]; · iexact Hb
  isplitl [Hc0]; · iapply (Entails.of_eq (opt_pos (c := c) (d := 0) trivial _).symm); iexact Hc0
  isplitl [Hl1]; · iexact Hl1
  isplitl [Hl2]; · iexact Hl2
  iexact Hl3

/-- The core of the stencil: the sum of the block's shifts minus six times the block. -/
abbrev core (c : Dev nD) : FVec F S32x32x32 .f32 := k0_pay7 (X m ρ c)

/-- The whole block, loaded. -/
theorem read_whole (c : Dev nD) (h) :
    uM.view.readAt (Elt F) (Rect.unit (s := S32x32x32) ![0, 0, 0] S32x32x32.size h).toLoadRect (X m ρ c) = X m ρ c :=
  Memref.readAt_unit_zero (Elt F) cc0_stg0_0 (by funext a; fin_cases a <;> rfl) _ _

/-- The y copy, the z copies, and the loading of the block. -/
theorem part3 (c : Dev nD) (Q : _ → sProp 𝕄) :
    iprop(recs m ρ K ∗ (uL c ↦[Finset.univ]{ql} X m ρ c) ∗ (opt c 2 (sendPay m ρ c 2) ∗ keep c 2 (anyZ c 0)) ∗ (opt c 3 (sendPay m ρ c 3) ∗ keep c 3 (anyZ c 1))
            ∗ owe c (oS c 3 + oS c 2 + oS c 1) ∗ sendPay m ρ c 1
            ∗ (opt c 1 (land (nbr c 1) 1) ∗ opt c 2 (land (nbr c 2) 3) ∗ opt c 3 (land (nbr c 3) 2))
            ∗ (copyTok c 1 ∗ copyTok c 2 ∗ copyTok c 3)
        ∗ (((uL c ↦[Finset.univ]{ql} X m ρ c) ∗ keep c 2 (anyZ c 0) ∗ keep c 3 (anyZ c 1)
            ∗ owe c 0 ∗ sentCr c 1 ∗ sentCr c 2 ∗ sentCr c 3)
            -∗ Q ⟨core m ρ c, k0_pay8 (w2 c), k0_pay9 (w5 c)⟩))
      ⊢ wpc c (k0_part3 (F := F) uM (Memref.isWhole_whole _) oM (Memref.isWhole_whole _) hxM (Memref.isWhole_whole _) hyM (Memref.isWhole_whole _)
          hzM (Memref.isWhole_whole _) szM (Memref.isWhole_whole _) cc0_scratch4 cc0_scratch5 cc0_scratch6 cc0_scratch7 cc0_scratch8 cc0_scratch9
          c (w2 c) (w5 c) (w8 c) (w9 c) (w10 c)) Q := by
  simp only [k0_part3_eq_skeleton]; unfold k0_part3_skel
  simp -proj only [semSignalWord, semWaitWord, Prog.lift, Prog.bind_op, Prog.bind_ret, Prog.pure_eq_ret, wp_deviceId, one_toInt]
  rw [show (oS c 3 + oS c 2 + oS c 1 : CellTallies nD τ sig Unit) = ((0 + oS c 3) + oS c 2) + oS c 1 by rw [zero_add]]
  iintro ⟨#HR, Hu, Hp0, Hp1, HO, Hsy, ⟨Hl1, Hl2, Hl3⟩, ⟨⟨HtS1, HtR1⟩, ⟨HtS2, HtR2⟩, ⟨HtS3, HtR3⟩⟩, Hk⟩
  ihave Hl1 := (Entails.of_eq (opt_pos (c := c) (d := 1) trivial _)) $$ Hl1
  iapply (wp_copy m ρ K c ⟨k0_dev6 c, k0_dev6_lt c⟩ 1 trivial (dev6_eq c) (src := srcY c) (dst := yAt (k0_off4 c) (k0_off4_inb c)) (sem_sy c) (sem_ry c)
      (hsc := rfl) (hsrc := View.wordExact_bits rfl) (hdst := (View.wordExact_bits rfl).reshape _ _) (hsem := ⟨⟨rfl, Or.inl rfl⟩, trivial⟩) (q := qy) (X m ρ c) (HY m ρ (nbr c 1)) (credit_y (k0_off4_inb c)) (sendPay_y m ρ c)
      (land_y c (k0_off4_eq c) (k0_off4_inb c)) (recvPay_y m ρ c (k0_off4_eq c) (k0_off4_inb c)) (landedY m ρ c (k0_off4_eq c) (k0_off4_inb c)) ((0 + oS c 3) + oS c 2)) $$ [Hsy Hl1 HO HtS1 HtR1]
  · isplitr; · iexact HR
    isplitl [Hsy]; · iexact Hsy
    isplitl [Hl1]; · iexact Hl1
    isplitl [HO]; · iexact HO
    isplitl [HtS1] <;> iassumption
  iintro ⟨HO, Hc1⟩
  iapply (wp_copy_if m ρ K c 2 (cond5_iff c) (fun h => ⟨k0_dev7 c, k0_dev7_lt c h⟩) (dev7_eq c)
      (src := pAt ![0, 0, 0, 0] inb_S2x32x32x1_S1x32x32x1_0_0_0_0) (dst := zAt ![1, 0, 0, 0] inb_S2x32x32x1_S1x32x32x1_1_0_0_0) (sem_sz0 c) (sem_rz1 (nbr c 2))
      (hsc := fun _ => rfl) (hsrc := (View.wordExact_bits rfl).reshape _ _) (hdst := fun _ => (View.wordExact_bits rfl).reshape _ _) (hsem := fun _ => ⟨⟨rfl, Or.inl rfl⟩, trivial⟩)
      (q := fullShare) (SZ m ρ c) (HZ m ρ (nbr c 2)) (credit_z0 _) (sendPay_z0 m ρ c rfl _) (land_z1 (nbr c 2) rfl _) (recvPay_z1 m ρ (nbr c 2) rfl _)
      (fun f => landedZ m ρ c (nbr c 2) 0 1 (by decide) (by decide) rfl rfl _ _ f (fun x y z => (HZ_below m ρ c x y z).trans (SZ_first m ρ c x y z).symm))
      (anyZ c 0) (0 + oS c 3)) $$ [Hp0 Hl2 HO HtS2 HtR2]
  · isplitr; · iexact HR
    isplitl [Hp0]; · iexact Hp0
    isplitl [Hl2]; · iexact Hl2
    isplitl [HO]; · iexact HO
    isplitl [HtS2] <;> iassumption
  iintro ⟨HO, Hc2, Hk0⟩
  iapply (wp_copy_if m ρ K c 3 (cond6_iff c) (fun h => ⟨k0_dev8 c, k0_dev8_lt c h⟩) (dev8_eq c)
      (src := pAt ![1, 0, 0, 0] inb_S2x32x32x1_S1x32x32x1_1_0_0_0) (dst := zAt ![0, 0, 0, 0] inb_S2x32x32x1_S1x32x32x1_0_0_0_0) (sem_sz1 c) (sem_rz0 (nbr c 3))
      (hsc := fun _ => rfl) (hsrc := (View.wordExact_bits rfl).reshape _ _) (hdst := fun _ => (View.wordExact_bits rfl).reshape _ _) (hsem := fun _ => ⟨⟨rfl, Or.inl rfl⟩, trivial⟩)
      (q := fullShare) (SZ m ρ c) (HZ m ρ (nbr c 3)) (credit_z1 _) (sendPay_z1 m ρ c rfl _) (land_z0 (nbr c 3) rfl _) (recvPay_z0 m ρ (nbr c 3) rfl _)
      (fun f => landedZ m ρ c (nbr c 3) 1 0 (by decide) (by decide) rfl rfl _ _ f (fun x y z => (HZ_above m ρ c x y z).trans (SZ_last m ρ c x y z).symm))
      (anyZ c 1) 0) $$ [Hp1 Hl3 HO HtS3 HtR3]
  · isplitr; · iexact HR
    isplitl [Hp1]; · iexact Hp1
    isplitl [Hl3]; · iexact Hl3
    isplitl [HO]; · iexact HO
    isplitl [HtS3] <;> iassumption
  iintro ⟨HO, Hc3, Hk1⟩
  iapply (wp_load 𝒱₀ (c : Thread nD τ) none Set.univ (m := uM) (Finset.subset_univ _)) $$ Hu; iintro Hu
  iapply (wpc_ret c)
  rw [read_whole m ρ c]
  iapply Hk
  isplitl [Hu]; · iexact Hu
  isplitl [Hk0]; · iexact Hk0
  isplitl [Hk1]; · iexact Hk1
  isplitl [HO]; · iexact HO
  isplitl [Hc1]; · iapply (Entails.of_eq (opt_pos (c := c) (d := 1) trivial _).symm); iexact Hc1
  isplitl [Hc2] <;> iassumption

end Cert.Halo

end
-- ==== Proof.Faces.lean ====
/-
The kernel's body: the result block and the faces worked into it.
-/
module

public import proofs.«01_k».proof.Proof.Copies

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ)

/-! ## The result block, step by step -/

/-- The block before any face is worked in: the core where the device's block is not on the outer boundary. -/
abbrev base (c : Dev nD) : FVec F S32x32x32 .f32 := k0_pay10 (w8 c) (core m ρ c) (k0_pay8 (w2 c)) (k0_pay9 (w5 c))
/-- Which entries of a face are not on the outer boundary. -/
abbrev maskX (c : Dev nD) : IVec S1x32x32 1 := k0_pay14 (k0_pay12 (w5 c) (w8 c)) (k0_pay13 (w8 c))
abbrev maskY (c : Dev nD) : IVec S32x1x32 1 := k0_pay15 (w2 c) (w8 c)
abbrev maskZ (c : Dev nD) : IVec S32x32x1 1 := k0_pay16 (w2 c) (w5 c)

/-- The boxes of the block the faces are worked into, and the slots the faces lie in. -/
abbrev bX0 : Rect S32x32x32 := Rect.unit (s := S32x32x32) ![0, 0, 0] S1x32x32.size inb_S32x32x32_S1x32x32_0_0_0
abbrev bX1 : Rect S32x32x32 := Rect.unit (s := S32x32x32) ![31, 0, 0] S1x32x32.size inb_S32x32x32_S1x32x32_31_0_0
abbrev bY0 : Rect S32x32x32 := Rect.unit (s := S32x32x32) ![0, 0, 0] S32x1x32.size inb_S32x32x32_S32x1x32_0_0_0
abbrev bY1 : Rect S32x32x32 := Rect.unit (s := S32x32x32) ![0, 31, 0] S32x1x32.size inb_S32x32x32_S32x1x32_0_31_0
abbrev bZ0 : Rect S32x32x32 := Rect.unit (s := S32x32x32) ![0, 0, 0] S32x32x1.size inb_S32x32x32_S32x32x1_0_0_0
abbrev bZ1 : Rect S32x32x32 := Rect.unit (s := S32x32x32) ![0, 0, 31] S32x32x1.size inb_S32x32x32_S32x32x1_0_0_31
abbrev sX0 : Rect S2x1x32x32 := Rect.unit (s := S2x1x32x32) ![0, 0, 0, 0] S1x1x32x32.size inb_S2x1x32x32_S1x1x32x32_0_0_0_0
abbrev sX1 : Rect S2x1x32x32 := Rect.unit (s := S2x1x32x32) ![1, 0, 0, 0] S1x1x32x32.size inb_S2x1x32x32_S1x1x32x32_1_0_0_0
abbrev sY0 : Rect S2x32x1x32 := Rect.unit (s := S2x32x1x32) ![0, 0, 0, 0] S1x32x1x32.size inb_S2x32x1x32_S1x32x1x32_0_0_0_0
abbrev sY1 : Rect S2x32x1x32 := Rect.unit (s := S2x32x1x32) ![1, 0, 0, 0] S1x32x1x32.size inb_S2x32x1x32_S1x32x1x32_1_0_0_0
abbrev sZ0 : Rect S2x32x32x1 := Rect.unit (s := S2x32x32x1) ![0, 0, 0, 0] S1x32x32x1.size inb_S2x32x32x1_S1x32x32x1_0_0_0_0
abbrev sZ1 : Rect S2x32x32x1 := Rect.unit (s := S2x32x32x1) ![1, 0, 0, 0] S1x32x32x1.size inb_S2x32x32x1_S1x32x32x1_1_0_0_0

/-- The steps: one per face. -/
def stepX0 (c : Dev nD) : (S32x32x32.Idx → Elt F .f32) → (S32x32x32.Idx → Elt F .f32) :=
  fstep (mx c = 1) bX0 fun a => k0_pay17 (maskX c) a (hxM.view.readAt (Elt F) sX0.toLoadRect (HX m ρ c))
def stepX1 (c : Dev nD) : (S32x32x32.Idx → Elt F .f32) → (S32x32x32.Idx → Elt F .f32) :=
  fstep (mx c = 0) bX1 fun a => k0_pay18 (maskX c) a (hxM.view.readAt (Elt F) sX1.toLoadRect (HX m ρ c))
def stepY0 (c : Dev nD) : (S32x32x32.Idx → Elt F .f32) → (S32x32x32.Idx → Elt F .f32) :=
  fstep (my c = 1) bY0 fun a => k0_pay1 (maskY c) a (hyM.view.readAt (Elt F) sY0.toLoadRect (HY m ρ c))
def stepY1 (c : Dev nD) : (S32x32x32.Idx → Elt F .f32) → (S32x32x32.Idx → Elt F .f32) :=
  fstep (my c = 0) bY1 fun a => k0_pay2 (maskY c) a (hyM.view.readAt (Elt F) sY1.toLoadRect (HY m ρ c))
def stepZ0 (c : Dev nD) : (S32x32x32.Idx → Elt F .f32) → (S32x32x32.Idx → Elt F .f32) :=
  fstep (Has c 2) bZ0 fun a => k0_pay3 (maskZ c) a (hzM.view.readAt (Elt F) sZ0.toLoadRect (HZ m ρ c))
def stepZ1 (c : Dev nD) : (S32x32x32.Idx → Elt F .f32) → (S32x32x32.Idx → Elt F .f32) :=
  fstep (Has c 3) bZ1 fun a => k0_pay4 (maskZ c) a (hzM.view.readAt (Elt F) sZ1.toLoadRect (HZ m ρ c))

/-- The result block of device `c`. -/
def out (c : Dev nD) : S32x32x32.Idx → Elt F .f32 :=
  stepZ1 m ρ c (stepZ0 m ρ c (stepY1 m ρ c (stepY0 m ρ c (stepX1 m ρ c (stepX0 m ρ c (base m ρ c))))))

/-! ## The tests -/

theorem tst_x0 : ∀ c : Dev nD, tst (Scalar.cmpi .sgt (w2 c) 0#32) = 1#1 ↔ mx c = 1 := by decide +kernel
theorem tst_x1 : ∀ c : Dev nD, tst (Scalar.cmpi .slt (w2 c) 1#32) = 1#1 ↔ mx c = 0 := by decide +kernel
theorem tst_y0 : ∀ c : Dev nD, tst (Scalar.cmpi .sgt (w5 c) 0#32) = 1#1 ↔ my c = 1 := by decide +kernel
theorem tst_y1 : ∀ c : Dev nD, tst (Scalar.cmpi .slt (w5 c) 1#32) = 1#1 ↔ my c = 0 := by decide +kernel

/-! ## Where the loads of landed faces go -/

theorem sX0_sub (c : Dev nD) (h : mx c = 1) : (hxM.access sX0).set ⊆ slot ![2, 1, 32, 32] (1 - mx c) := by
  rw [show (hxM.access sX0).set = sX0.set from View.set_slice_whole cc0_scratch0 sX0, show sX0.set = slot ![2, 1, 32, 32] 0 from slab_set rfl _, h]
theorem sX1_sub (c : Dev nD) (h : mx c = 0) : (hxM.access sX1).set ⊆ slot ![2, 1, 32, 32] (1 - mx c) := by
  rw [show (hxM.access sX1).set = sX1.set from View.set_slice_whole cc0_scratch0 sX1, show sX1.set = slot ![2, 1, 32, 32] 1 from slab_set rfl _, h]
theorem sY0_sub (c : Dev nD) (h : my c = 1) : (hyM.access sY0).set ⊆ slot ![2, 32, 1, 32] (1 - my c) := by
  rw [show (hyM.access sY0).set = sY0.set from View.set_slice_whole cc0_scratch1 sY0, show sY0.set = slot ![2, 32, 1, 32] 0 from slab_set rfl _, h]
theorem sY1_sub (c : Dev nD) (h : my c = 0) : (hyM.access sY1).set ⊆ slot ![2, 32, 1, 32] (1 - my c) := by
  rw [show (hyM.access sY1).set = sY1.set from View.set_slice_whole cc0_scratch1 sY1, show sY1.set = slot ![2, 32, 1, 32] 1 from slab_set rfl _, h]

/-! ## The parts -/

/-- A store of the whole block. -/
theorem write_whole (f w : S32x32x32.Idx → Elt F .f32) (h) :
    (oM.access (Rect.unit (s := S32x32x32) ![0, 0, 0] S32x32x32.size h)).write (Elt F) f w Finset.univ = w :=
  Memref.write_access_unit_zero_univ (Elt F) cc0_stg1_0 (by funext a; fin_cases a <;> rfl) _ f w

/-- The base, stored. -/
theorem part4 (c : Dev nD) (f : S32x32x32.Idx → Elt F .f32) (Q : _ → sProp 𝕄) :
    iprop((oL c ↦[Finset.univ]{fullShare} f) ∗ ((oL c ↦[Finset.univ]{fullShare} base m ρ c) -∗ Q ⟨k0_pay12 (w5 c) (w8 c), k0_pay13 (w8 c)⟩))
      ⊢ wpc c (k0_part4 (F := F) uM (Memref.isWhole_whole _) oM (Memref.isWhole_whole _) hxM (Memref.isWhole_whole _) hyM (Memref.isWhole_whole _)
          hzM (Memref.isWhole_whole _) szM (Memref.isWhole_whole _) cc0_scratch4 cc0_scratch5 cc0_scratch6 cc0_scratch7 cc0_scratch8 cc0_scratch9
          (w5 c) (w8 c) (core m ρ c) (k0_pay8 (w2 c)) (k0_pay9 (w5 c))) Q := by
  simp only [k0_part4_eq_skeleton]; unfold k0_part4_skel
  simp -proj only [Prog.lift, Prog.bind_op, Prog.bind_ret, Prog.pure_eq_ret]
  iintro ⟨Ho, Hk⟩
  iapply (wp_load 𝒱₀ (c : Thread nD τ) none Set.univ (m := oM) (Finset.subset_univ _)) $$ Ho; iintro Ho
  iapply (wp_store 𝒱₀ (c : Thread nD τ) none Set.univ (m := oM) (r := Rect.unit (s := S32x32x32) ![0, 0, 0] S32x32x32.size inb_S32x32x32_S32x32x32_0_0_0) (Mk := Finset.univ) (Finset.subset_univ _)) $$ Ho; iintro Ho
  iapply (wpc_ret c)
  iapply Hk
  iapply (Entails.of_eq (congrArg (fun w => iprop(oL c ↦[Finset.univ]{fullShare} w)) (write_whole f (base m ρ c) inb_S32x32x32_S32x32x32_0_0_0))); iexact Ho

/-- The word the program carries along, of no further use. -/
abbrev w192 (c : Dev nD) : BitVec 32 := Scalar.addi (Scalar.addi 0#32 (Scalar.muli (w2 c) 8#32)) (Scalar.muli (w5 c) 4#32)

theorem part5 (c : Dev nD) (Q : _ → sProp 𝕄) :
    Q ⟨maskX c, maskY c, maskZ c, w192 c⟩
      ⊢ wpc c (k0_part5 (F := F) uM (Memref.isWhole_whole _) oM (Memref.isWhole_whole _) hxM (Memref.isWhole_whole _) hyM (Memref.isWhole_whole _)
          hzM (Memref.isWhole_whole _) szM (Memref.isWhole_whole _) cc0_scratch4 cc0_scratch5 cc0_scratch6 cc0_scratch7 cc0_scratch8 cc0_scratch9
          (w2 c) (w5 c) (w8 c) (k0_pay12 (w5 c) (w8 c)) (k0_pay13 (w8 c))) Q := by
  simp only [k0_part5_eq_skeleton]; unfold k0_part5_skel
  simp -proj only [Prog.lift, Prog.bind_op, Prog.bind_ret, Prog.pure_eq_ret]
  iintro H
  iapply (wpc_ret c); iexact H

/-- The x neighbour's face worked in; the y neighbour's awaited. -/
theorem part6 (c : Dev nD) (o : S32x32x32.Idx → Elt F .f32) (Q : _ → sProp 𝕄) :
    iprop(recs m ρ K ∗ owe c 0 ∗ atPos EH (recvC c 0) 0 ∅ 0 ∗ recvCr c 0 ∗ atPos EH (recvC c 1) 0 ∅ 0 ∗ recvCr c 1 ∗ (oL c ↦[Finset.univ]{fullShare} o)
        ∗ ((owe c 0 ∗ semVal (recvC c 0) 0 ∗ semVal (recvC c 1) 0 ∗ recvPay m ρ c 0 ∗ recvPay m ρ c 1
            ∗ (oL c ↦[Finset.univ]{fullShare} stepX1 m ρ c (stepX0 m ρ c o))) -∗ Q (tst (Scalar.cmpi .sgt (w5 c) 0#32))))
      ⊢ wpc c (k0_part6 (F := F) uM (Memref.isWhole_whole _) oM (Memref.isWhole_whole _) hxM (Memref.isWhole_whole _) hyM (Memref.isWhole_whole _)
          hzM (Memref.isWhole_whole _) szM (Memref.isWhole_whole _) cc0_scratch4 cc0_scratch5 cc0_scratch6 cc0_scratch7 cc0_scratch8 cc0_scratch9
          c (w2 c) (w5 c) (w8 c) (maskX c) (w192 c)) Q := by
  simp only [k0_part6_eq_skeleton]; unfold k0_part6_skel
  simp -proj only [Prog.lift, Prog.bind_op, Prog.bind_ret, Prog.pure_eq_ret]
  iintro ⟨#HR, HO, Ha0, Hc0, Ha1, Hc1, Ho, Hk⟩
  ihave Hc0 := (Entails.of_eq (opt_pos (c := c) (d := 0) trivial _)) $$ Hc0
  ihave Hc1 := (Entails.of_eq (opt_pos (c := c) (d := 1) trivial _)) $$ Hc1
  iapply (wp_recv m ρ K c 0 trivial (sem_wx c) (src := xAt (k0_off7 c) (k0_off7_inb c)) (dst := xAt (k0_off7 c) (k0_off7_inb c)) (credit_x (k0_off7_inb c))) $$ [HO Ha0 Hc0]
  · isplitr; · iexact HR
    isplitl [HO]; · iexact HO
    isplitl [Ha0] <;> iassumption
  iintro ⟨HO, Hs0, Hh⟩
  ihave Hh := (Entails.of_eq (show recvPay m ρ c 0 = iprop(hxM.view.loc (c : Thread nD τ) ↦[slot ![2, 1, 32, 32] (1 - mx c)]{fullShare} HX m ρ c) from rfl)) $$ Hh
  iapply (wp_face c (tst_x0 c) (M := hxM) (ro := bX0) (rh := sX0) (w := k0_pay17 (maskX c)) (sX0_sub c) o) $$ [Ho Hh]
  · isplitl [Ho] <;> iassumption
  iintro ⟨Ho, Hh⟩
  iapply (wp_face c (tst_x1 c) (M := hxM) (ro := bX1) (rh := sX1) (w := k0_pay18 (maskX c)) (sX1_sub c) _) $$ [Ho Hh]
  · isplitl [Ho] <;> iassumption
  iintro ⟨Ho, Hh⟩
  iapply (wp_recv m ρ K c 1 trivial (sem_wy c) (src := srcY c) (dst := yAt (k0_off8 c) (k0_off8_inb c)) (credit_y (k0_off8_inb c))) $$ [HO Ha1 Hc1]
  · isplitr; · iexact HR
    isplitl [HO]; · iexact HO
    isplitl [Ha1] <;> iassumption
  iintro ⟨HO, Hs1, Hg⟩
  iapply (wpc_ret c)
  iapply Hk
  isplitl [HO]; · iexact HO
  isplitl [Hs0]; · iexact Hs0
  isplitl [Hs1]; · iexact Hs1
  isplitl [Hh]; · iapply (Entails.of_eq (show recvPay m ρ c 0 = iprop(hxM.view.loc (c : Thread nD τ) ↦[slot ![2, 1, 32, 32] (1 - mx c)]{fullShare} HX m ρ c) from rfl).symm); iexact Hh
  isplitl [Hg]; · iexact Hg
  iexact Ho

end Cert.Halo

end
-- ==== Proof.State.lean ====
/-
The kernel's body: its resources, and the whole of it run.
-/
module

public import proofs.«01_k».proof.Proof.Parts
public import proofs.«01_k».proof.Proof.Faces

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev idleC (c : Dev nD) (d : Fin 4) : GSem nD τ sig := ((c : Thread nD τ), .dma (idleS c d))

/-- The positions of a device's cells, all at the start. -/
def pos (c : Dev nD) : sProp 𝕄 :=
  iprop(atPos EH (barC c) 0 ∅ 0 ∗ (bigSep Finset.univ fun d => atPos EH (sendC c d) 0 ∅ 0) ∗ (bigSep Finset.univ fun d => atPos EH (recvC c d) 0 ∅ 0)
    ∗ bigSep Finset.univ fun d => atPos EH (idleC c d) 0 ∅ 0)
/-- The tokens of the duties the device performs. -/
def ptoks (c : Dev nD) : sProp 𝕄 :=
  iprop((bigSep Finset.univ fun d => barTok c d) ∗ bigSep Finset.univ fun d => copyTok c d)
/-- What the device has been promised: its neighbours' signals and copies. -/
def promised (c : Dev nD) : sProp 𝕄 :=
  iprop(cred (tallyAt (barC c) () (Finset.univ.filter (Has c)).card) ∗ bigSep Finset.univ fun d => recvCr c d)
/-- The buffers beside the two blocks, at any contents. -/
def scratch (c : Dev nD) : sProp 𝕄 :=
  iprop((∃ f, hxL c ↦[Finset.univ]{fullShare} f) ∗ (∃ f, hyL c ↦[Finset.univ]{fullShare} f) ∗ (∃ f, hzL c ↦[Finset.univ]{fullShare} f) ∗ ∃ f, szL c ↦[Finset.univ]{fullShare} f)
/-- All semaphores of the device back at zero. -/
def zeros (c : Dev nD) : sProp 𝕄 :=
  iprop(semVal (barC c) 0 ∗ (bigSep Finset.univ fun d => semVal (sendC c d) 0) ∗ (bigSep Finset.univ fun d => semVal (recvC c d) 0)
    ∗ bigSep Finset.univ fun d => semVal (idleC c d) 0)

def ghost (c : Dev nD) : sProp 𝕄 := iprop(recs m ρ K ∗ pos c ∗ ptoks c)
def start (c : Dev nD) : sProp 𝕄 := iprop((∃ K, ghost m ρ K c) ∗ promised c ∗ levAts L lv)
def Φ₀ (c : Dev nD) : sProp 𝕄 := iprop(start m ρ c ∗ scratch c)
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => out m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Cutting buffers up and putting them together again -/

theorem land0 (c : Dev nD) : land (F := F) c 0 = iprop(∃ f, hxL c ↦[slot ![2, 1, 32, 32] (1 - mx c)]{fullShare} f) := rfl
theorem land1 (c : Dev nD) : land (F := F) c 1 = iprop(∃ f, hyL c ↦[slot ![2, 32, 1, 32] (1 - my c)]{fullShare} f) := rfl
theorem land2 (c : Dev nD) : land (F := F) c 2 = iprop(∃ f, hzL c ↦[slot ![2, 32, 32, 1] 0]{fullShare} f) := rfl
theorem land3 (c : Dev nD) : land (F := F) c 3 = iprop(∃ f, hzL c ↦[slot ![2, 32, 32, 1] 1]{fullShare} f) := rfl
theorem recv0 (c : Dev nD) : recvPay m ρ c 0 = iprop(hxL c ↦[slot ![2, 1, 32, 32] (1 - mx c)]{fullShare} HX m ρ c) := rfl
theorem recv1 (c : Dev nD) : recvPay m ρ c 1 = iprop(hyL c ↦[slot ![2, 32, 1, 32] (1 - my c)]{fullShare} HY m ρ c) := rfl
theorem recv2 (c : Dev nD) : recvPay m ρ c 2 = iprop(hzL c ↦[slot ![2, 32, 32, 1] 0]{fullShare} HZ m ρ c) := rfl
theorem recv3 (c : Dev nD) : recvPay m ρ c 3 = iprop(hzL c ↦[slot ![2, 32, 32, 1] 1]{fullShare} HZ m ρ c) := rfl
theorem send0 (c : Dev nD) : sendPay m ρ c 0 = iprop(uL c ↦[faceX c]{qx} X m ρ c) := rfl
theorem send1 (c : Dev nD) : sendPay m ρ c 1 = iprop(uL c ↦[faceY c]{qy} X m ρ c) := rfl
theorem send2 (c : Dev nD) : sendPay m ρ c 2 = iprop(szL c ↦[slot ![2, 32, 32, 1] 0]{fullShare} SZ m ρ c) := rfl
theorem send3 (c : Dev nD) : sendPay m ρ c 3 = iprop(szL c ↦[slot ![2, 32, 32, 1] 1]{fullShare} SZ m ρ c) := rfl

theorem cut (ℓ : Loc nD τ sig) (S : Finset (Idx ℓ)) (q : PosShare TreeShare) (f : Buf (Elt F) ℓ) :
    (ℓ ↦[Finset.univ]{q} f : sProp 𝕄) ⊢ iprop((ℓ ↦[S]{q} f) ∗ ℓ ↦[Finset.univ \ S]{q} f) := (pointsTo_split_subset (Finset.subset_univ S)).1
theorem uncut (ℓ : Loc nD τ sig) (S : Finset (Idx ℓ)) (q : PosShare TreeShare) (f : Buf (Elt F) ℓ) :
    iprop((ℓ ↦[S]{q} f) ∗ ℓ ↦[Finset.univ \ S]{q} f) ⊢ (ℓ ↦[Finset.univ]{q} f : sProp 𝕄) := (pointsTo_split_subset (Finset.subset_univ S)).2
theorem uncut_any (ℓ : Loc nD τ sig) (S : Finset (Idx ℓ)) :
    iprop((∃ f, ℓ ↦[S]{fullShare} f) ∗ ∃ g, ℓ ↦[Finset.univ \ S]{fullShare} g) ⊢ (∃ h, ℓ ↦[Finset.univ]{fullShare} h : sProp 𝕄) := by
  iintro ⟨⟨%f, Hf⟩, ⟨%g, Hg⟩⟩
  iexists (S.piecewise f g)
  iapply (pointsTo_join_subset (Finset.subset_univ S))
  isplitl [Hf] <;> iassumption

/-- The second slot is what the first leaves. -/
theorem slot_compl {n : ℕ} (d : Fin (n + 1) → ℕ) (h : d 0 = 2) : Finset.univ \ slot d 0 = slot d 1 := by
  ext i
  unfold slot
  rw [Finset.mem_sdiff, Finset.mem_filter, Finset.mem_filter]
  have hi : (i 0).val < 2 := by have := (i 0).isLt; exact lt_of_lt_of_eq this h
  constructor
  · rintro ⟨-, h'⟩; exact ⟨Finset.mem_univ _, by by_contra h''; exact h' ⟨Finset.mem_univ _, by omega⟩⟩
  · rintro ⟨-, h'⟩; exact ⟨Finset.mem_univ _, fun h'' => by omega⟩

/-- The block: a face for the x copy, a face for the y copy, and a share for loads. -/
def rests (c : Dev nD) : sProp 𝕄 := iprop((uL c ↦[Finset.univ \ faceX c]{qx} X m ρ c) ∗ uL c ↦[Finset.univ \ faceY c]{qy} X m ρ c)

theorem u_cut (c : Dev nD) : (uL c ↦[Finset.univ]{fullShare} X m ρ c)
    ⊢ iprop((uL c ↦[Finset.univ]{ql} X m ρ c) ∗ sendPay m ρ c 0 ∗ sendPay m ρ c 1 ∗ rests m ρ c) := by
  unfold rests
  rw [send0, send1]
  iintro H
  ihave H := (pointsTo_share (PosShare.mem_left_op_right fullShare)).1 $$ H
  icases H with ⟨Hl, Hr⟩
  ihave Hl := (pointsTo_share (PosShare.mem_left_op_right fullShare.left)).1 $$ Hl
  icases Hl with ⟨Hx, Hy⟩
  ihave Hx := (cut (uL c) (faceX c) _ _) $$ Hx
  ihave Hy := (cut (uL c) (faceY c) _ _) $$ Hy
  icases Hx with ⟨Hx, Hx'⟩
  icases Hy with ⟨Hy, Hy'⟩
  isplitl [Hr]; · iexact Hr
  isplitl [Hx]; · iexact Hx
  isplitl [Hy]; · iexact Hy
  isplitl [Hx'] <;> iassumption

theorem u_join (c : Dev nD) : iprop((uL c ↦[Finset.univ]{ql} X m ρ c) ∗ sendPay m ρ c 0 ∗ sendPay m ρ c 1 ∗ rests m ρ c)
    ⊢ (uL c ↦[Finset.univ]{fullShare} X m ρ c) := by
  unfold rests
  rw [send0, send1]
  iintro ⟨Hr, Hx, Hy, Hx', Hy'⟩
  iapply (pointsTo_share (PosShare.mem_left_op_right fullShare)).2
  isplitr [Hr]
  · iapply (pointsTo_share (PosShare.mem_left_op_right fullShare.left)).2
    isplitl [Hx Hx']
    · iapply (uncut (uL c) (faceX c) _ _); isplitl [Hx]; · iexact Hx
      iexact Hx'
    · iapply (uncut (uL c) (faceY c) _ _); isplitl [Hy]; · iexact Hy
      iexact Hy'
  · iexact Hr

/-- What the neighbours do not touch of the x and y landing buffers. -/
def spare (c : Dev nD) : sProp 𝕄 :=
  iprop((∃ g, hxL c ↦[Finset.univ \ slot ![2, 1, 32, 32] (1 - mx c)]{fullShare} g) ∗ ∃ g, hyL c ↦[Finset.univ \ slot ![2, 32, 1, 32] (1 - my c)]{fullShare} g)

theorem hz_compl : (Finset.univ \ slot ![2, 32, 32, 1] 0 : Finset (⟨4, ![2, 32, 32, 1]⟩ : Shape).Idx) = slot ![2, 32, 32, 1] 1 := slot_compl _ rfl

theorem scratch_cut (c : Dev nD) : scratch (F := F) c
    ⊢ iprop((land c 0 ∗ land c 1 ∗ land c 2 ∗ land c 3) ∗ spare c ∗ anyZ c 0 ∗ anyZ c 1) := by
  unfold scratch spare
  rw [land0, land1, land2, land3]
  iintro ⟨⟨%fx, Hx⟩, ⟨%fy, Hy⟩, ⟨%fz, Hz⟩, ⟨%fs, Hs⟩⟩
  ihave Hx := (cut (hxL c) (slot ![2, 1, 32, 32] (1 - mx c)) _ _) $$ Hx
  ihave Hy := (cut (hyL c) (slot ![2, 32, 1, 32] (1 - my c)) _ _) $$ Hy
  ihave Hz := (cut (hzL c) (slot ![2, 32, 32, 1] 0) _ _) $$ Hz
  ihave Hs := (cut (szL c) (slot ![2, 32, 32, 1] 0) _ _) $$ Hs
  icases Hx with ⟨Hx, Hx'⟩
  icases Hy with ⟨Hy, Hy'⟩
  icases Hz with ⟨Hz, Hz'⟩
  icases Hs with ⟨Hs, Hs'⟩
  isplitl [Hx Hy Hz Hz']
  · isplitl [Hx]; · iexists fx; iexact Hx
    isplitl [Hy]; · iexists fy; iexact Hy
    isplitl [Hz]; · iexists fz; iexact Hz
    iexists fz
    iapply (Entails.of_eq (congrArg (fun S => (hzL c ↦[S]{fullShare} fz : sProp 𝕄)) hz_compl)); iexact Hz'
  isplitl [Hx' Hy']
  · isplitl [Hx']; · iexists fx; iexact Hx'
    iexists fy; iexact Hy'
  isplitl [Hs]; · iexists fs; iexact Hs
  iexists fs
  iapply (Entails.of_eq (congrArg (fun S => (szL c ↦[S]{fullShare} fs : sProp 𝕄)) hz_compl)); iexact Hs'

/-- A landing part at the end: the face or, without a neighbour, what it was. -/
theorem landed_any (c : Dev nD) (d : Fin 4) : iprop(opt c d (recvPay m ρ c d) ∗ keep c d (land c d)) ⊢ land (F := F) c d := by
  by_cases h : Has c d
  · rw [opt_pos h, keep_pos h]
    rcases (by decide : ∀ d : Fin 4, d = 0 ∨ d = 1 ∨ d = 2 ∨ d = 3) d with rfl | rfl | rfl | rfl
    · rw [recv0, land0]; iintro ⟨H, -⟩; iexists _; iexact H
    · rw [recv1, land1]; iintro ⟨H, -⟩; iexists _; iexact H
    · rw [recv2, land2]; iintro ⟨H, -⟩; iexists _; iexact H
    · rw [recv3, land3]; iintro ⟨H, -⟩; iexists _; iexact H
  · rw [opt_neg h, keep_neg h]
    iintro ⟨-, H⟩; iexact H

theorem packed_any (c : Dev nD) : iprop((opt c 2 (sendPay m ρ c 2) ∗ keep c 2 (anyZ c 0)) ∗ (opt c 3 (sendPay m ρ c 3) ∗ keep c 3 (anyZ c 1)))
    ⊢ iprop(anyZ (F := F) c 0 ∗ anyZ c 1) := by
  refine Laws.sep_mono ?_ ?_
  · by_cases h : Has c 2
    · rw [opt_pos h, keep_pos h, send2]
      iintro ⟨H, -⟩; iexists (SZ m ρ c); iexact H
    · rw [opt_neg h, keep_neg h]
      iintro ⟨-, H⟩; iexact H
  · by_cases h : Has c 3
    · rw [opt_pos h, keep_pos h, send3]
      iintro ⟨H, -⟩; iexists (SZ m ρ c); iexact H
    · rw [opt_neg h, keep_neg h]
      iintro ⟨-, H⟩; iexact H

theorem scratch_join (c : Dev nD) : iprop((land c 0 ∗ land c 1 ∗ land c 2 ∗ land c 3) ∗ spare c ∗ anyZ c 0 ∗ anyZ c 1) ⊢ scratch (F := F) c := by
  unfold scratch spare
  rw [land0, land1, land2, land3]
  iintro ⟨⟨Hx, Hy, Hz, Hz'⟩, ⟨Hx', Hy'⟩, Hs, Hs'⟩
  isplitl [Hx Hx']
  · iapply (uncut_any (hxL c) (slot ![2, 1, 32, 32] (1 - mx c)))
    isplitl [Hx]; · iexact Hx
    iexact Hx'
  isplitl [Hy Hy']
  · iapply (uncut_any (hyL c) (slot ![2, 32, 1, 32] (1 - my c)))
    isplitl [Hy]; · iexact Hy
    iexact Hy'
  isplitl [Hz Hz']
  · iapply (uncut_any (hzL c) (slot ![2, 32, 32, 1] 0))
    isplitl [Hz]; · iexact Hz
    iapply (Entails.of_eq (congrArg (fun S => (iprop(∃ g, hzL c ↦[S]{fullShare} g) : sProp 𝕄)) hz_compl.symm)); iexact Hz'
  · iapply (uncut_any (szL c) (slot ![2, 32, 32, 1] 0))
    isplitl [Hs]; · iexact Hs
    iapply (Entails.of_eq (congrArg (fun S => (iprop(∃ g, szL c ↦[S]{fullShare} g) : sProp 𝕄)) hz_compl.symm)); iexact Hs'

end Cert.Halo

end
-- ==== Proof.Body.lean ====
/-
The kernel's body: the whole of it, run from its resources to the pipeline's obligation.
-/
module

public import proofs.«01_k».proof.Proof.State

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ)

/-! ## The body -/

/-- A sequence runs its first program, then the second at its result. -/
theorem wpc_bind {α β : Type} (c : Dev nD) (p : Prog (TpuEff nD τ sig (Elt F) Λ₀ .tc) α) (k : α → Prog (TpuEff nD τ sig (Elt F) Λ₀ .tc) β) (Q : β → sProp 𝕄) :
    wpc c p (fun a => wpc c (k a) Q) ⊢ wpc c (p >>= k) Q := Entails.of_eq (wp_bind ..).symm

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The four sides, one by one. -/
theorem bigSep_four (Φ : Fin 4 → sProp 𝕄) : bigSep Finset.univ Φ = iprop(Φ 0 ∗ Φ 1 ∗ Φ 2 ∗ Φ 3) :=
  (bigSep_univ_eq_bigSepL [0, 1, 2, 3] (by decide) (by decide) Φ).trans rfl

theorem credit_srcX (c : Dev nD) : (srcX c).view.dmaCredit = units 0 := rfl
theorem credit_srcY (c : Dev nD) : (srcY c).view.dmaCredit = units 1 := rfl
theorem credit_p0 {off : Fin 4 → ℕ} (inb) : (pAt off inb).view.dmaCredit = units 2 := rfl
theorem credit_p1 {off : Fin 4 → ℕ} (inb) : (pAt off inb).view.dmaCredit = units 3 := rfl

theorem idle_closed (c : Dev nD) (d : Fin 4) : iprop(recs m ρ K ∗ atPos EH (idleC c d) 0 ∅ 0) ⊢ iprop(|={Set.univ}=> semVal (idleC c d) 0) :=
  close_unused m ρ K (c, some (2, d)) (duties_idle m ρ c d)

set_option maxHeartbeats 1600000 in
/-- The whole body, run part by part, one rule per effect: the result block is `out`, all buffers are the device's again, all semaphores back at zero. -/
theorem sound_run (c : Dev nD) (f : S32x32x32.Idx → Elt F .f32) (Q : PUnit → sProp 𝕄) :
    iprop(ghost m ρ K c ∗ promised c ∗ levAts L lv ∗ scratch c ∗ owe c (O₀ c)
        ∗ (uL c ↦[Finset.univ]{fullShare} X m ρ c) ∗ (oL c ↦[Finset.univ]{fullShare} f)
        ∗ ((scratch c ∗ zeros c ∗ owe c 0 ∗ (uL c ↦[Finset.univ]{fullShare} X m ρ c) ∗ (oL c ↦[Finset.univ]{fullShare} out m ρ c)) -∗ Q ⟨⟩))
      ⊢ wpc c (cc0_body (F := F) uM (Memref.isWhole_whole _) oM (Memref.isWhole_whole _) hxM (Memref.isWhole_whole _) hyM (Memref.isWhole_whole _)
          hzM (Memref.isWhole_whole _) szM (Memref.isWhole_whole _) cc0_scratch4 cc0_scratch5 cc0_scratch6 cc0_scratch7 cc0_scratch8 cc0_scratch9) Q := by
  rw [cc0_body_eq_skeleton]; unfold cc0_body_skel ghost pos ptoks promised
  simp -proj only [bigSep_four]
  iintro ⟨⟨#HR, ⟨HaB, ⟨HaS0, HaS1, HaS2, HaS3⟩, ⟨HaR0, HaR1, HaR2, HaR3⟩, ⟨HaI0, HaI1, HaI2, HaI3⟩⟩, HtB, ⟨Ht0, Ht1, Ht2, Ht3⟩⟩, ⟨HcB, HcR0, HcR1, HcR2, HcR3⟩,
    #Hlev, Hscr, HO, Hu, Ho, Hk⟩
  ihave Hscr := (scratch_cut c) $$ Hscr
  icases Hscr with ⟨Hl, Hsp, Hz0, Hz1⟩
  ihave Hu := (u_cut m ρ c) $$ Hu
  icases Hu with ⟨Hu, Hsx, Hsy, Hrest⟩
  iapply (wpc_bind c)
  iapply (part1 m ρ K c)
  isplitr; · iexact HR
  isplitl [HO]; · iexact HO
  isplitl [HtB]; · iexact HtB
  isplitl [Hl]; · iexact Hl
  iintro ⟨HO, Hk2, Hk3⟩
  try dsimp -proj only
  iapply (wpc_bind c)
  iapply (part2 m ρ K c)
  isplitr; · iexact HR
  isplitr; · iexact Hlev
  isplitl [Hu]; · iexact Hu
  isplitl [Hz0]; · iexact Hz0
  isplitl [Hz1]; · iexact Hz1
  isplitl [HO]; · iexact HO
  isplitl [HaB]; · iexact HaB
  isplitl [HcB]; · iexact HcB
  isplitl [Hsx]; · iexact Hsx
  isplitl [Ht0]; · iexact Ht0
  iintro ⟨Hu, Hp2, Hp3, HO, HzB, HsC0, HL1, HL2, HL3⟩
  try dsimp -proj only
  iapply (wpc_bind c)
  iapply (part3 m ρ K c)
  isplitr; · iexact HR
  isplitl [Hu]; · iexact Hu
  isplitl [Hp2]; · iexact Hp2
  isplitl [Hp3]; · iexact Hp3
  isplitl [HO]; · iexact HO
  isplitl [Hsy]; · iexact Hsy
  isplitl [HL1 HL2 HL3]
  · isplitl [HL1]; · iexact HL1
    isplitl [HL2]; · iexact HL2
    iexact HL3
  isplitl [Ht1 Ht2 Ht3]
  · isplitl [Ht1]; · iexact Ht1
    isplitl [Ht2]; · iexact Ht2
    iexact Ht3
  iintro ⟨Hu, Hq2, Hq3, HO, HsC1, HsC2, HsC3⟩
  try dsimp -proj only
  iapply (wpc_bind c)
  iapply (part4 m ρ c f)
  isplitl [Ho]; · iexact Ho
  iintro Ho
  try dsimp -proj only
  iapply (wpc_bind c)
  iapply (part5 c)
  try dsimp -proj only
  iapply (wpc_bind c)
  iapply (part6 m ρ K c (base m ρ c))
  isplitr; · iexact HR
  isplitl [HO]; · iexact HO
  isplitl [HaR0]; · iexact HaR0
  isplitl [HcR0]; · iexact HcR0
  isplitl [HaR1]; · iexact HaR1
  isplitl [HcR1]; · iexact HcR1
  isplitl [Ho]; · iexact Ho
  iintro ⟨HO, HzR0, HzR1, Hr0, Hr1, Ho⟩
  simp -proj only [Prog.lift, Prog.bind_op, Prog.bind_ret, Prog.pure_eq_ret]
  ihave Hr1 := (Entails.of_eq (recv1 m ρ c)) $$ Hr1
  iapply (wp_face c (tst_y0 c) (M := hyM) (ro := bY0) (rh := sY0) (w := k0_pay1 (maskY c)) (sY0_sub c) (stepX1 m ρ c (stepX0 m ρ c (base m ρ c)))) $$ [Ho Hr1]
  · isplitl [Ho]; · iexact Ho
    iexact Hr1
  iintro ⟨Ho, Hr1⟩
  iapply (wp_face c (tst_y1 c) (M := hyM) (ro := bY1) (rh := sY1) (w := k0_pay2 (maskY c)) (sY1_sub c) _) $$ [Ho Hr1]
  · isplitl [Ho]; · iexact Ho
    iexact Hr1
  iintro ⟨Ho, Hr1⟩
  iapply (wp_zface m ρ K c 2 0 (tst_w9 c) (sem_rz0 c) (src := zAt ![0, 0, 0, 0] inb_S2x32x32x1_S1x32x32x1_0_0_0_0) (dst := zAt ![0, 0, 0, 0] inb_S2x32x32x1_S1x32x32x1_0_0_0_0) (credit_z0 _)
    (ro := bZ0) (rh := sZ0) (w := k0_pay3 (maskZ c)) (slab_set rfl _) (recv2 m ρ c) _) $$ [HO HaR2 HcR2 Ho]
  · isplitr; · iexact HR
    isplitl [HO]; · iexact HO
    isplitl [HaR2]; · iexact HaR2
    isplitl [HcR2]; · iexact HcR2
    iexact Ho
  iintro ⟨HO, HzR2, Hr2, Ho⟩
  iapply (wp_zface m ρ K c 3 1 (tst_w10 c) (sem_rz1 c) (src := zAt ![1, 0, 0, 0] inb_S2x32x32x1_S1x32x32x1_1_0_0_0) (dst := zAt ![1, 0, 0, 0] inb_S2x32x32x1_S1x32x32x1_1_0_0_0) (credit_z1 _)
    (ro := bZ1) (rh := sZ1) (w := k0_pay4 (maskZ c)) (slab_set rfl _) (recv3 m ρ c) _) $$ [HO HaR3 HcR3 Ho]
  · isplitr; · iexact HR
    isplitl [HO]; · iexact HO
    isplitl [HaR3]; · iexact HaR3
    isplitl [HcR3]; · iexact HcR3
    iexact Ho
  iintro ⟨HO, HzR3, Hr3, Ho⟩
  ihave HsC0 := (Entails.of_eq (opt_pos (c := c) (d := 0) trivial _)) $$ HsC0
  ihave HsC1 := (Entails.of_eq (opt_pos (c := c) (d := 1) trivial _)) $$ HsC1
  iapply (wp_sent m ρ K c 0 trivial (sem_sx c) (src := xAt (k0_off2 c) (k0_off2_inb c)) (dst := srcX c) (credit_srcX c)) $$ [HO HaS0 HsC0]
  · isplitr; · iexact HR
    isplitl [HO]; · iexact HO
    isplitl [HaS0]; · iexact HaS0
    iexact HsC0
  iintro ⟨HO, HzS0, Hsx⟩
  iapply (wp_sent m ρ K c 1 trivial (sem_sy c) (src := yAt (k0_off4 c) (k0_off4_inb c)) (dst := srcY c) (credit_srcY c)) $$ [HO HaS1 HsC1]
  · isplitr; · iexact HR
    isplitl [HO]; · iexact HO
    isplitl [HaS1]; · iexact HaS1
    iexact HsC1
  iintro ⟨HO, HzS1, Hsy⟩
  iapply (wp_sent_if m ρ K c 2 (tst_w9 c) (sem_sz0 c) (src := zAt ![1, 0, 0, 0] inb_S2x32x32x1_S1x32x32x1_1_0_0_0) (dst := pAt ![0, 0, 0, 0] inb_S2x32x32x1_S1x32x32x1_0_0_0_0) (credit_p0 _)) $$ [HO HaS2 HsC2]
  · isplitr; · iexact HR
    isplitl [HO]; · iexact HO
    isplitl [HaS2]; · iexact HaS2
    iexact HsC2
  iintro ⟨HO, HzS2, Hp2⟩
  iapply (wp_sent_if m ρ K c 3 (tst_w10 c) (sem_sz1 c) (src := zAt ![0, 0, 0, 0] inb_S2x32x32x1_S1x32x32x1_0_0_0_0) (dst := pAt ![1, 0, 0, 0] inb_S2x32x32x1_S1x32x32x1_1_0_0_0) (credit_p1 _)) $$ [HO HaS3 HsC3]
  · isplitr; · iexact HR
    isplitl [HO]; · iexact HO
    isplitl [HaS3]; · iexact HaS3
    iexact HsC3
  iintro ⟨HO, HzS3, Hp3⟩
  imod (idle_closed m ρ K c 0) $$ [HaI0] with HzI0
  · isplitr; · iexact HR
    iexact HaI0
  imod (idle_closed m ρ K c 1) $$ [HaI1] with HzI1
  · isplitr; · iexact HR
    iexact HaI1
  imod (idle_closed m ρ K c 2) $$ [HaI2] with HzI2
  · isplitr; · iexact HR
    iexact HaI2
  imod (idle_closed m ρ K c 3) $$ [HaI3] with HzI3
  · isplitr; · iexact HR
    iexact HaI3
  iapply (wpc_ret c)
  iapply Hk
  isplitl [Hr0 Hr1 Hr2 Hk2 Hr3 Hk3 Hsp Hp2 Hq2 Hp3 Hq3]
  · iapply (scratch_join c)
    isplitl [Hr0 Hr1 Hr2 Hk2 Hr3 Hk3]
    · isplitl [Hr0]; · iapply (Entails.of_eq (land0 c).symm); iexists (HX m ρ c); iapply (Entails.of_eq (recv0 m ρ c)); iexact Hr0
      isplitl [Hr1]; · iapply (Entails.of_eq (land1 c).symm); iexists (HY m ρ c); iexact Hr1
      isplitl [Hr2 Hk2]
      · iapply (landed_any m ρ c 2); isplitl [Hr2]; · iexact Hr2
        iexact Hk2
      · iapply (landed_any m ρ c 3); isplitl [Hr3]; · iexact Hr3
        iexact Hk3
    isplitl [Hsp]; · iexact Hsp
    iapply (packed_any m ρ c)
    isplitl [Hp2 Hq2]
    · isplitl [Hp2]; · iexact Hp2
      iexact Hq2
    · isplitl [Hp3]; · iexact Hp3
      iexact Hq3
  isplitl [HzB HzS0 HzS1 HzS2 HzS3 HzR0 HzR1 HzR2 HzR3 HzI0 HzI1 HzI2 HzI3]
  · unfold zeros
    simp -proj only [bigSep_four]
    isplitl [HzB]; · iexact HzB
    isplitl [HzS0 HzS1 HzS2 HzS3]
    · isplitl [HzS0]; · iexact HzS0
      isplitl [HzS1]; · iexact HzS1
      isplitl [HzS2]; · iexact HzS2
      iexact HzS3
    isplitl [HzR0 HzR1 HzR2 HzR3]
    · isplitl [HzR0]; · iexact HzR0
      isplitl [HzR1]; · iexact HzR1
      isplitl [HzR2]; · iexact HzR2
      iexact HzR3
    isplitl [HzI0]; · iexact HzI0
    isplitl [HzI1]; · iexact HzI1
    isplitl [HzI2]; · iexact HzI2
    iexact HzI3
  isplitl [HO]; · iexact HO
  isplitl [Hu Hsx Hsy Hrest]
  · iapply (u_join m ρ c)
    isplitl [Hu]; · iexact Hu
    isplitl [Hsx]; · iexact Hsx
    isplitl [Hsy]; · iexact Hsy
    iexact Hrest
  iexact Ho

/-! ## The pipeline's obligation -/

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (X m ρ c) ∗ stg c cc0_stg1_0 (out m ρ c))

/-- The body, from what the pipeline gives it to what the pipeline takes back. -/
theorem sound_body (c : Dev nD) : bodyPre m ρ c ⊢ wpc c (cc0_body (F := F) uM (Memref.isWhole_whole _) oM (Memref.isWhole_whole _) hxM (Memref.isWhole_whole _) hyM (Memref.isWhole_whole _)
        hzM (Memref.isWhole_whole _) szM (Memref.isWhole_whole _) cc0_scratch4 cc0_scratch5 cc0_scratch6 cc0_scratch7 cc0_scratch8 cc0_scratch9) (fun _ => bodyPost m ρ c) := by
  unfold bodyPre bodyPost Φ₀ Φ₁ start Dat.owesAt Pipeline.owesWithin
  rw [show (dats m ρ 0 c).owed t₀.castSucc = O₀ c from rfl, show (dats m ρ 0 c).owed t₀.succ = 0 from rfl]
  iintro ⟨⟨⟨⟨%K, Hg⟩, Hpr, Hlev⟩, Hscr⟩, ⟨%W, %hW, HO⟩, ⟨%d0, %g0, %hg0, Hx⟩, ⟨%d1, %g1, %hg1, Hout⟩⟩
  have hx : g0 = X m ρ c := by rw [hg0]; unfold Dat.before; rw [if_pos (fetch_0 t₀)]; rfl
  subst hx
  iapply (sound_run m ρ K c g1)
  isplitl [Hg]; · iexact Hg
  isplitl [Hpr]; · iexact Hpr
  isplitl [Hlev]; · iexact Hlev
  isplitl [Hscr]; · iexact Hscr
  isplitl [HO]; · unfold owe; iexists W; iexact HO
  isplitl [Hx]; · iexact Hx
  isplitl [Hout]; · iexact Hout
  unfold owe
  iintro ⟨Hscr, Hz, ⟨%W', HO⟩, Hx, Hout⟩
  isplitl [Hscr Hz]
  · isplitl [Hscr]; · iexact Hscr
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

end Cert.Halo

end
-- ==== Proof.Cells.lean ====
/-
The launch: the cells, the tokens, and how they are dealt to the devices.
-/
module

public import proofs.«01_k».proof.Proof.Body

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ)

/-! ## The cells and the semaphores -/

theorem ne_of_dma {s s' : DmaSem sig} (h : s ≠ s') : (SemLoc.dma s : SemLoc sig) ≠ .dma s' := fun e => h (by cases e; rfl)

theorem csem_inj : ∀ c : Dev nD, Function.Injective (csem c) := by decide +kernel
theorem cell_inj : Function.Injective (cell : Dev nD × Cid → GSem nD τ sig) := by
  rintro ⟨c, k⟩ ⟨c', k'⟩ h
  have h1 : c = c' := congrArg (fun g : GSem nD τ sig => g.1.1) h
  subst h1
  have h2 : csem c k = csem c k' := congrArg Prod.snd h
  rw [csem_inj c h2]
/-- All cells of the exchange. -/
def cells : Finset (GSem nD τ sig) := Finset.univ.map ⟨cell, cell_inj⟩

/-- A device's cells, kind by kind. -/
theorem bigSep_cid (Φ : Cid → sProp 𝕄) : bigSep Finset.univ Φ = iprop(Φ none ∗ (bigSep Finset.univ fun d => Φ (some (0, d)))
    ∗ (bigSep Finset.univ fun d => Φ (some (1, d))) ∗ bigSep Finset.univ fun d => Φ (some (2, d))) := by
  rw [bigSep_univ_at _ none, show (Finset.univ.erase none : Finset Cid) = Finset.univ.map Function.Embedding.some by decide, bigSep_map, bigSep_univ_prod,
    bigSep_univ_eq_bigSepL [0, 1, 2] (by decide) (by decide)]
  rfl

/-- The kernel's own semaphores. -/
abbrev osem (k : Fin 12) : SemLoc sig := .dma (⟨k.val + 2, by have : sig.nDmaSem = 14 := rfl; omega⟩ : Fin sig.nDmaSem)
theorem ownSemFacts : Pipeline.OwnSemFacts cfg0.spec osem := by decide

/-- Which of them a cell stands on. -/
def num (c : Dev nD) (p : Fin 3 × Fin 4) : Fin 12 :=
  match p with
  | (0, d) => ⟨(sendS c d).val - 2, by have := (sendS c d).isLt; have : sig.nDmaSem = 14 := rfl; omega⟩
  | (1, d) => ⟨(recvS c d).val - 2, by have := (recvS c d).isLt; have : sig.nDmaSem = 14 := rfl; omega⟩
  | (2, d) => ⟨(idleS c d).val - 2, by have := (idleS c d).isLt; have : sig.nDmaSem = 14 := rfl; omega⟩
theorem num_inj : ∀ c : Dev nD, Function.Injective (num c) := by decide +kernel
theorem osem_num : ∀ (c : Dev nD) (p : Fin 3 × Fin 4), osem (num c p) = csem c (some p) := by decide +kernel
/-- Every own semaphore has one cell. -/
def numE (c : Dev nD) : Fin 3 × Fin 4 ≃ Fin 12 :=
  Equiv.ofBijective (num c) ((Fintype.bijective_iff_injective_and_card _).2 ⟨num_inj c, by decide⟩)

theorem ownSems_eq (c : Dev nD) : (Pipeline.ownSems0 (Ix := Unit) (Name := ℕ) (U := UU) (Lvl := ℕ) (Val := Elt F) (τ := τ) osem c : sProp 𝕄)
    = iprop((bigSep Finset.univ fun d => semVal (sendC c d) 0) ∗ (bigSep Finset.univ fun d => semVal (recvC c d) 0)
      ∗ bigSep Finset.univ fun d => semVal (idleC c d) 0) := by
  unfold Pipeline.ownSems0
  rw [bigSep_univ_equiv (numE c), bigSep_univ_prod, bigSep_univ_eq_bigSepL [0, 1, 2] (by decide) (by decide)]
  have h (k : Fin 3) : (bigSep Finset.univ fun d : Fin 4 => (semVal (((c : Dev nD) : Thread nD τ), osem (numE c (k, d))) 0 : sProp 𝕄))
      = bigSep Finset.univ fun d => semVal (cell (c, some (k, d))) 0 := bigSep_congr fun d _ => by rw [show osem (numE c (k, d)) = csem c (some (k, d)) from osem_num c (k, d)]
  exact (congrArg₂ _ (h 0) (congrArg₂ _ (h 1) (h 2)))
theorem unscoped_eq (c : Dev nD) : (unscopedSems0 c : sProp 𝕄) = semVal (barC c) 0 := by
  unfold unscopedSems0; rw [bigSep_eq_bigSepL_of_eq [SemLoc.reg barS] (by decide) (by decide)]; rfl

theorem all_zeros (c : Dev nD) : iprop(Pipeline.ownSems0 (Ix := Unit) (Name := ℕ) (U := UU) (Lvl := ℕ) (Val := Elt F) (τ := τ) osem c ∗ unscopedSems0 c)
    ⊢ (bigSep Finset.univ fun k : Cid => semVal (cell (c, k)) 0 : sProp 𝕄) := by
  rw [ownSems_eq, unscoped_eq, bigSep_cid]
  iintro ⟨H, HB⟩
  isplitl [HB]; · iexact HB
  iexact H

/-! ## The tokens -/

/-- The token of each kind on each side of each device. -/
abbrev tokOf (p : (Dev nD × Fin 4) × Fin 3) : GSem nD τ sig × ℕ × Fin 4 :=
  match p.2 with
  | 0 => (barC p.1.1, 0, p.1.2)
  | 1 => (sendC p.1.1 p.1.2, 0, p.1.2)
  | 2 => (recvC p.1.1 p.1.2, 0, p.1.2)
theorem tokOf_inj : Function.Injective tokOf := by
  rintro ⟨⟨c, d⟩, k⟩ ⟨⟨c', d'⟩, k'⟩ h
  have h1 : c = c' := by
    have := congrArg (fun x : GSem nD τ sig × ℕ × Fin 4 => x.1.1.1) h
    fin_cases k <;> fin_cases k' <;> exact this
  subst h1
  have h2 : d = d' := by
    have := congrArg (fun x : GSem nD τ sig × ℕ × Fin 4 => x.2.2) h
    fin_cases k <;> fin_cases k' <;> exact this
  subst h2
  have h3 := congrArg (fun x : GSem nD τ sig × ℕ × Fin 4 => x.1.2) h
  have : k = k' := by
    fin_cases k <;> fin_cases k' <;> first
      | rfl
      | exact absurd h3 (dma_ne_bar _)
      | exact absurd h3.symm (dma_ne_bar _)
      | exact absurd h3 (ne_of_dma (sendS_ne_recvS c d d))
      | exact absurd h3.symm (ne_of_dma (sendS_ne_recvS c d d))
  subst this; rfl
def allToks : Finset (GSem nD τ sig × ℕ × Fin 4) := Finset.univ.map ⟨tokOf, tokOf_inj⟩

/-- A side, seen from the neighbour across it. -/
def across : Dev nD × Fin 4 ≃ Dev nD × Fin 4 where
  toFun p := (nbr p.1 p.2, opp p.2)
  invFun p := (nbr p.1 p.2, opp p.2)
  left_inv p := Prod.ext (nbr_nbr p.1 p.2) (opp_opp p.2)
  right_inv p := Prod.ext (nbr_nbr p.1 p.2) (opp_opp p.2)

/-- The tokens go to the devices that perform the duties. -/
theorem toks_dealt : (bigSep allToks fun x => (dutyTok EH x.1 x.2.1 x.2.2 : sProp 𝕄)) ⊢ bigSep Finset.univ fun c : Dev nD => ptoks c := by
  have h : (bigSep allToks fun x => (dutyTok EH x.1 x.2.1 x.2.2 : sProp 𝕄))
      = iprop((bigSep Finset.univ fun p : Dev nD × Fin 4 => barTok p.1 p.2) ∗ bigSep Finset.univ fun p : Dev nD × Fin 4 => copyTok p.1 p.2) := by
    have h3 : (bigSep allToks fun x => (dutyTok EH x.1 x.2.1 x.2.2 : sProp 𝕄)) = bigSep Finset.univ fun p : Dev nD × Fin 4 =>
        iprop(dutyTok EH (barC p.1) 0 p.2 ∗ dutyTok EH (sendC p.1 p.2) 0 p.2 ∗ dutyTok EH (recvC p.1 p.2) 0 p.2) := by
      unfold allToks
      rw [bigSep_map, bigSep_univ_prod]
      exact bigSep_congr fun p _ => by rw [bigSep_univ_eq_bigSepL [0, 1, 2] (by decide) (by decide)]; rfl
    rw [h3, bigSep_sep', bigSep_sep', bigSep_sep',
      bigSep_univ_equiv across (fun p : Dev nD × Fin 4 => (dutyTok EH (barC p.1) 0 p.2 : sProp 𝕄)),
      bigSep_univ_equiv across (fun p : Dev nD × Fin 4 => (dutyTok EH (recvC p.1 p.2) 0 p.2 : sProp 𝕄))]
    rfl
  rw [h, bigSep_univ_prod, bigSep_univ_prod, ← bigSep_sep']
  exact BI.Entails.refl _

/-! ## Allocating the cells -/

/-- What the launch deals device `c` of each of its cells. -/
def G (c : Dev nD) : sProp 𝕄 :=
  iprop((bigSep Finset.univ fun k : Cid => roundState EH (sched m ρ) (cell (c, k)) 0)
    ∗ (bigSep Finset.univ fun k : Cid => iprop(atPos EH (cell (c, k)) 0 ∅ 0 ∗ reached EH (cell (c, k)) 0)) ∗ ptoks c)
/-- What the devices make of it together. -/
def G' (c : Dev nD) : sProp 𝕄 := iprop(∃ K, ghost m ρ K c)

def u₀ : UU := (initOf (Pipeline.cells cfgs cellOf_inj) (Pipeline.launchToks cfgs cellOf_inj), initOf cells allToks)

theorem fund_cells : BI.own (EH (initOf cells allToks)) ⊢ (|==> bigSep Finset.univ (G m ρ) : sProp 𝕄) := by
  have hX (Φ : GSem nD τ sig → sProp 𝕄) : bigSep cells Φ = bigSep Finset.univ fun c : Dev nD => bigSep Finset.univ fun k : Cid => Φ (cell (c, k)) := by
    unfold cells; rw [bigSep_map, bigSep_univ_prod]; rfl
  iintro HX
  imod (Rounds.fund EH (sched m ρ) cells allToks) $$ HX with ⟨Hst, Hr, Hat, Htok⟩
  imodintro
  ihave Hst' := (Entails.of_eq (hX fun g => roundState EH (sched m ρ) g 0)) $$ Hst
  ihave Hat' := (Entails.of_eq (hX fun g => atPos EH g 0 ∅ 0)) $$ Hat
  ihave Hr' := (Entails.of_eq (hX fun g => reached EH g 0)) $$ Hr
  ihave Htok' := (toks_dealt (F := F)) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EH (sched m ρ) κ (cell (c, k))))
          ∗ (bigSep Finset.univ fun k => iprop(atPos EH (cell (c, k)) 0 ∅ 0 ∗ reached EH (cell (c, k)) 0)) ∗ ptoks c) := by
  unfold G
  iintro ⟨Hos, Hus, Hst, Hat, Htok⟩
  ihave Hv := (all_zeros (F := F) c) $$ [Hos Hus]
  · isplitl [Hos] <;> iassumption
  imod (show iprop((bigSep Finset.univ fun k : Cid => semVal (cell (c, k)) 0) ∗ bigSep Finset.univ fun k : Cid => roundState EH (sched m ρ) (cell (c, k)) 0)
      ⊢ (|={Set.univ}=> bigSep Finset.univ fun k => iprop(∃ κ : ℕ, cellInv EH (sched m ρ) κ (cell (c, k))) : sProp 𝕄) from by
        rw [← bigSep_sep']
        exact (bigSep_mono fun k _ => (Rounds.body_intro EH (sched m ρ) (cell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem pos_eq (c : Dev nD) : (bigSep Finset.univ fun k : Cid => (atPos EH (cell (c, k)) 0 ∅ 0 : sProp 𝕄)) = pos c := bigSep_cid _

theorem regroup :
    (bigSep Finset.univ fun c : Dev nD => iprop((bigSep Finset.univ fun k => iprop(∃ κ : ℕ, cellInv EH (sched m ρ) κ (cell (c, k))))
          ∗ (bigSep Finset.univ fun k => iprop(atPos EH (cell (c, k)) 0 ∅ 0 ∗ reached EH (cell (c, k)) 0)) ∗ ptoks c) : sProp 𝕄)
      ⊢ bigSep Finset.univ (G' m ρ) := by
  rw [bigSep_sep', bigSep_sep', ← bigSep_univ_prod (fun p : Dev nD × Cid => iprop(∃ κ : ℕ, cellInv EH (sched m ρ) κ (cell p))),
    bigSep_congr (s := Finset.univ) (fun (c : Dev nD) _ => bigSep_sep' Finset.univ (fun k : Cid => (atPos EH (cell (c, k)) 0 ∅ 0 : sProp 𝕄)) (fun k => reached EH (cell (c, k)) 0)),
    bigSep_sep', ← bigSep_univ_prod (fun p : Dev nD × Cid => (reached EH (cell p) 0 : sProp 𝕄))]
  iintro ⟨HI, ⟨Hat, #HR⟩, Htok⟩
  ihave HK := (BI.bigSep_exists_pi Finset.univ (fun (p : Dev nD × Cid) (κ : ℕ) => (cellInv EH (sched m ρ) κ (cell p) : sProp 𝕄))) $$ HI
  icases HK with ⟨%K, #HI⟩
  iapply (with_persistent (R := recs m ρ K) (Φ := fun c => iprop((bigSep Finset.univ fun k : Cid => (atPos EH (cell (c, k)) 0 ∅ 0 : sProp 𝕄)) ∗ ptoks c))
    fun c _ => by
      rw [pos_eq]; unfold G' ghost
      iintro H; iexists K; iexact H)
  isplitr
  · unfold recs; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Halo

end
-- ==== Proof.Launch.lean ====
/-
The launch: what each device is owed, and the run of the whole program.
-/
module

public import proofs.«01_k».proof.Proof.Cells
public import Idealize.ShloMosaic.Lib.Pipeline.CollectiveSegs

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ)

/-! ## What each device is owed -/

theorem bar_eq {a b : Dev nD} (h : barC a = barC b) : a = b := congrArg (fun g : GSem nD τ sig => g.1.1) h
theorem recv_eq {a b : Dev nD} {d e : Fin 4} (h : recvC a d = recvC b e) : a = b ∧ d = e := by
  have h1 : a = b := congrArg (fun g : GSem nD τ sig => g.1.1) h
  subst h1
  have h2 : (SemLoc.dma (recvS a d) : SemLoc sig) = .dma (recvS a e) := congrArg Prod.snd h
  exact ⟨rfl, recvS_inj a d e (by by_contra hn; exact ne_of_dma hn h2)⟩
theorem bar_ne_recv (a b : Dev nD) (d : Fin 4) : barC a ≠ recvC b d := fun h => dma_ne_bar _ (congrArg Prod.snd h).symm

theorem oB_bar (d c : Dev nD) (s : Fin 4) : oB d s (barC c) () = if Has d s ∧ nbr d s = c then 1 else 0 := by
  unfold oB
  by_cases h : Has d s
  · rw [if_pos h, tallyAt_apply]
    by_cases h' : nbr d s = c
    · rw [if_pos ⟨h' ▸ rfl, rfl⟩, if_pos ⟨h, h'⟩]
    · rw [if_neg fun h'' => h' (bar_eq h''.1).symm, if_neg fun h'' => h' h''.2]
  · rw [if_neg h, if_neg fun h' => h h'.1]; rfl
theorem oS_bar (d c : Dev nD) (s : Fin 4) : oS d s (barC c) () = 0 := by
  unfold oS
  by_cases h : Has d s
  · rw [if_pos h, tallyAt_ne_cell (bar_ne_recv _ _ _)]; rfl
  · rw [if_neg h]; rfl
theorem oB_recv (d c : Dev nD) (s e : Fin 4) : oB d s (recvC c e) () = 0 := by
  unfold oB
  by_cases h : Has d s
  · rw [if_pos h, tallyAt_ne_cell (bar_ne_recv _ _ _).symm]; rfl
  · rw [if_neg h]; rfl
theorem oS_recv (d c : Dev nD) (s e : Fin 4) : oS d s (recvC c e) () = (if Has d s ∧ nbr d s = c ∧ opp s = e then 1 else 0) * units e := by
  unfold oS
  by_cases h : Has d s
  · rw [if_pos h, tallyAt_apply]
    by_cases h' : nbr d s = c ∧ opp s = e
    · rw [if_pos ⟨by rw [h'.1, h'.2], rfl⟩, if_pos ⟨h, h'⟩, Nat.one_mul, ← h'.2, units_opp]
    · rw [if_neg fun h'' => h' ⟨(recv_eq h''.1).1.symm, (recv_eq h''.1).2.symm⟩, if_neg fun h'' => h' h''.2, Nat.zero_mul]
  · rw [if_neg h, if_neg fun h' => h h'.1, Nat.zero_mul]; rfl

theorem O₀_apply (d : Dev nD) (g : GSem nD τ sig) : O₀ d g () = oS d 3 g () + oS d 2 g () + oS d 1 g () + oS d 0 g () + oB d 3 g () + oB d 2 g () + oB d 1 g () + oB d 0 g () := by
  unfold O₀ O₁
  simp only [Pi.add_apply, Finsupp.add_apply]

/-- How many neighbours signal a device, and how many copy to one of its sides. -/
theorem signals : ∀ c : Dev nD, (∑ d : Dev nD, ((if Has d 3 ∧ nbr d 3 = c then 1 else 0) + (if Has d 2 ∧ nbr d 2 = c then 1 else 0)
    + (if Has d 1 ∧ nbr d 1 = c then 1 else 0) + (if Has d 0 ∧ nbr d 0 = c then 1 else 0))) = (Finset.univ.filter (Has c)).card := by decide +kernel
theorem arrivals : ∀ (c : Dev nD) (e : Fin 4), (∑ d : Dev nD, ((if Has d 3 ∧ nbr d 3 = c ∧ opp 3 = e then 1 else 0) + (if Has d 2 ∧ nbr d 2 = c ∧ opp 2 = e then 1 else 0)
    + (if Has d 1 ∧ nbr d 1 = c ∧ opp 1 = e then 1 else 0) + (if Has d 0 ∧ nbr d 0 = c ∧ opp 0 = e then 1 else 0))) = if Has c e then 1 else 0 := by decide +kernel

theorem launch_bar (c : Dev nD) :
    tallyOn (barC c) (launchCredit (Pipeline.owing O₀) 0 (barC c)) = (tallyAt (barC c) () (Finset.univ.filter (Has c)).card : CellTallies nD τ sig Unit) := by
  unfold tallyAt; refine congrArg _ (Finsupp.ext fun u => ?_); cases u
  rw [Pipeline.launchCredit_owing, Finsupp.single_eq_same, ← signals c]
  refine Finset.sum_congr rfl fun d _ => ?_
  rw [O₀_apply]
  simp only [oS_bar, oB_bar, Nat.zero_add]
theorem launch_recv (c : Dev nD) (e : Fin 4) :
    tallyOn (recvC c e) (launchCredit (Pipeline.owing O₀) 0 (recvC c e)) = (tallyAt (recvC c e) () ((if Has c e then 1 else 0) * units e) : CellTallies nD τ sig Unit) := by
  unfold tallyAt; refine congrArg _ (Finsupp.ext fun u => ?_); cases u
  rw [Pipeline.launchCredit_owing, Finsupp.single_eq_same, ← arrivals c e, Finset.sum_mul]
  refine Finset.sum_congr rfl fun d _ => ?_
  rw [O₀_apply]
  simp only [oS_recv, oB_recv, Nat.add_zero, Nat.add_mul]

/-- The sides' receiving semaphores among all. -/
def sideSem (c : Dev nD) : Fin 4 ↪ SemLoc sig := ⟨fun d => .dma (recvS c d), fun d e h => recvS_inj c d e (by by_contra hn; exact ne_of_dma hn h)⟩

theorem all_promised (c : Dev nD) : (Pipeline.launchCred O₀ c : sProp 𝕄) ⊢ promised c := by
  unfold Pipeline.launchCred promised
  rw [bigSep_univ_at _ (SemLoc.reg barS), launch_bar]
  refine sep_mono_right ((BI.bigSep_subset (t := Finset.univ.map (sideSem c)) ?_).trans ?_)
  · intro s hs
    obtain ⟨d, -, rfl⟩ := Finset.mem_map.mp hs
    exact Finset.mem_erase.mpr ⟨dma_ne_bar _, Finset.mem_univ _⟩
  · rw [bigSep_map]
    refine bigSep_mono fun d _ => ?_
    show cred (tallyOn (recvC c d) (launchCredit (Pipeline.owing O₀) 0 (recvC c d))) ⊢ recvCr c d
    rw [launch_recv]
    by_cases h : Has c d
    · rw [if_pos h, Nat.one_mul]; exact Entails.of_eq (opt_pos h _).symm
    · refine BI.Entails.trans ?_ (Entails.of_eq (opt_neg h _).symm)
      exact (show (iprop(cred (tallyAt (recvC c d) () ((if Has c d then 1 else 0) * units d))) : sProp 𝕄) ⊢ iprop(emp) from by iintro -; iempintro)

/-! ## The side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (all_promised (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, unscoped_eq]
  unfold Φ₁ scratch zeros
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, on all sixteen devices and for any float values: every fair run of the program
    ends, each device's arrays end as computed, and every counter ends at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A device's block of the argument after the run: what it held. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.Halo

end
-- ==== Proof.Frames.lean ====
/-
The claims that the programs run to the end, keep their arguments, and leave every semaphore at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Halo

open Idealize.ShloMosaic Idealize.SL.Sem

/-- The kernel at any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0 :=
  (θ_run Cert.KernelIdeal.defs _ _).mono (fun _ h => ⟨fun c => (h.1 c (0 : Fin 2)).trans (finalA_arg m ρ c), h.2⟩) (run_main m ρ)

/-- The body called by the printed kernel is the one called by its idealization. -/
theorem bodies_eq : Cert.Kernel.defs₀ (F := Bits) = Cert.KernelIdeal.defs₀ (F := Bits) := by
  unfold Cert.Kernel.defs₀ Cert.KernelIdeal.defs₀
  congr 1
  funext ℓ a
  match ℓ, a with
  | 0, (t, s) => rfl

/-- So the two programs call the same functions. -/
theorem defs_eq : Cert.Kernel.defs (F := Bits) = Cert.KernelIdeal.defs (F := Bits) :=
  congrArg (Pipeline.defs (Cert.KernelIdeal.pcfgs (F := Bits))) bodies_eq

/-- The kernel on bit patterns. -/
theorem frame_kernel : Cert.quiescent_Kernel := fun m ρ _ =>
  (congrArg (fun D => θ_run D (onTc (τ := Cert.KernelIdeal.τ) (Cert.KernelIdeal.main (F := Bits))) ⟨m, fun _ => 0, ρ⟩ fun r =>
    (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0) defs_eq).mpr (frame_any (F := Bits) m ρ)

/-- The kernel on extended reals. -/
theorem frame_ideal : Cert.quiescent_KernelIdeal := fun m ρ _ => frame_any (F := Ideal) m ρ

/-- The reference on extended reals; it has no semaphores. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

end Cert.Halo

end
-- ==== Proof.Whole.lean ====
/-
The argument and the result of a device as whole arrays: the kernel has one point, and its two windows are whole arrays.
-/
module

public import proofs.«01_k».proof.Proof.Launch
public import Idealize.ShloMosaic.Lib.Pipeline.ValueKit.Geometry

@[expose] public section

noncomputable section

namespace Cert.Halo

open Cert.KernelIdeal Cert.KernelIdeal.Gen

open Idealize.ShloMosaic
open Idealize.ShloMosaic.TcCoe
open Idealize.SL.Sem
open Idealize.ShloMosaic.ValueIdx
open Idealize.ShloMosaic.Pipeline (Dat Window)

variable {F : FTy → Type} [FloatOps F]

variable (m : (ℓ : Loc nD τ sig) → Buf (Elt F) ℓ) (ρ : Dev nD → PrngReg)

/-- An entry of the argument's window is the same entry of the argument. -/
theorem blk_arg (i : S32x32x32.Idx) : (win0_0.blk (0 : Fin 1)).view.emb i = i := by
  funext a
  refine Fin.ext ?_
  match a with
  | ⟨0, _⟩ => show 0 * 32 + 1 * (i 0).val = (i 0).val; omega
  | ⟨1, _⟩ => show 0 * 32 + 1 * (i 1).val = (i 1).val; omega
  | ⟨2, _⟩ => show 0 * 32 + 1 * (i 2).val = (i 2).val; omega

/-- An entry of the result's window is the same entry of the result. -/
theorem blk_res (i : S32x32x32.Idx) : (win0_1.blk (0 : Fin 1)).view.emb i = i := by
  funext a
  refine Fin.ext ?_
  match a with
  | ⟨0, _⟩ => show 0 * 32 + 1 * (i 0).val = (i 0).val; omega
  | ⟨1, _⟩ => show 0 * 32 + 1 * (i 1).val = (i 1).val; omega
  | ⟨2, _⟩ => show 0 * 32 + 1 * (i 2).val = (i 2).val; omega

/-- The block a device works on is its argument. -/
theorem X_eq (c : Dev nD) : X m ρ c = m ((c : Thread nD τ).loc main_arg0) := by
  funext i
  exact congrArg (m ((c : Thread nD τ).loc main_arg0)) (blk_arg i)

/-- The result of a device after the run is its result block. -/
theorem finalA_res (c : Dev nD) : finalA m ρ c (1 : Fin 2) = out m ρ c := by
  refine (dats m ρ 0 c).arrAt_eq_of_covers (1 : Fin 2) (out m ρ c) (by decide +kernel) fun t hf y => ?_
  obtain rfl := fin_N t
  exact congrArg (out m ρ c) (blk_res y).symm

end Cert.Halo

end
-- ==== Proof.Payload.lean ====
/-
The values the kernel computes with, entry by entry, on extended reals.
-/
module

public import proofs.«01_k».proof.Proof.Views
public import Idealize.ShloMosaic.Lib.Pointwise
public import Idealize.ShloMosaic.Lib.Pointwise.IndexBridge

@[expose] public section

noncomputable section

namespace Cert.Halo

open Cert.KernelIdeal Cert.KernelIdeal.Gen
open Idealize.ShloMosaic

/-! ## Faces -/

theorem pay17_apply (a : IVec S1x32x32 1) (v : S1x32x32.Idx → EReal) (w : S1x1x32x32.Idx → EReal) (i : Fin 1) (j k : Fin 32) :
    k0_pay17 (F := Ideal) a v w (ValueIdx.ix3 i j k)
      = v (ValueIdx.ix3 i j k) + Scalar.select (a (ValueIdx.ix3 i j k)) (w (ValueIdx.ix4 (0 : Fin 1) (0 : Fin 1) j k)) 0 := by
  simp only [← ix3_eq_valueIdx, ← ix4_eq_valueIdx]
  pointwise [k0_pay17]

theorem pay18_apply (a : IVec S1x32x32 1) (v : S1x32x32.Idx → EReal) (w : S1x1x32x32.Idx → EReal) (i : Fin 1) (j k : Fin 32) :
    k0_pay18 (F := Ideal) a v w (ValueIdx.ix3 i j k)
      = v (ValueIdx.ix3 i j k) + Scalar.select (a (ValueIdx.ix3 i j k)) (w (ValueIdx.ix4 (0 : Fin 1) (0 : Fin 1) j k)) 0 := by
  simp only [← ix3_eq_valueIdx, ← ix4_eq_valueIdx]
  pointwise [k0_pay18]

theorem pay1_apply (a : IVec S32x1x32 1) (v : S32x1x32.Idx → EReal) (w : S1x32x1x32.Idx → EReal) (i : Fin 32) (j : Fin 1) (k : Fin 32) :
    k0_pay1 (F := Ideal) a v w (ValueIdx.ix3 i j k)
      = v (ValueIdx.ix3 i j k) + Scalar.select (a (ValueIdx.ix3 i j k)) (w (ValueIdx.ix4 (0 : Fin 1) i (0 : Fin 1) k)) 0 := by
  simp only [← ix3_eq_valueIdx, ← ix4_eq_valueIdx]
  pointwise [k0_pay1]

theorem pay2_apply (a : IVec S32x1x32 1) (v : S32x1x32.Idx → EReal) (w : S1x32x1x32.Idx → EReal) (i : Fin 32) (j : Fin 1) (k : Fin 32) :
    k0_pay2 (F := Ideal) a v w (ValueIdx.ix3 i j k)
      = v (ValueIdx.ix3 i j k) + Scalar.select (a (ValueIdx.ix3 i j k)) (w (ValueIdx.ix4 (0 : Fin 1) i (0 : Fin 1) k)) 0 := by
  simp only [← ix3_eq_valueIdx, ← ix4_eq_valueIdx]
  pointwise [k0_pay2]

theorem pay3_apply (a : IVec S32x32x1 1) (v : S32x32x1.Idx → EReal) (w : S1x32x32x1.Idx → EReal) (i j : Fin 32) (k : Fin 1) :
    k0_pay3 (F := Ideal) a v w (ValueIdx.ix3 i j k)
      = v (ValueIdx.ix3 i j k) + Scalar.select (a (ValueIdx.ix3 i j k)) (w (ValueIdx.ix4 (0 : Fin 1) i j (0 : Fin 1))) 0 := by
  simp only [← ix3_eq_valueIdx, ← ix4_eq_valueIdx]
  pointwise [k0_pay3]

theorem pay4_apply (a : IVec S32x32x1 1) (v : S32x32x1.Idx → EReal) (w : S1x32x32x1.Idx → EReal) (i j : Fin 32) (k : Fin 1) :
    k0_pay4 (F := Ideal) a v w (ValueIdx.ix3 i j k)
      = v (ValueIdx.ix3 i j k) + Scalar.select (a (ValueIdx.ix3 i j k)) (w (ValueIdx.ix4 (0 : Fin 1) i j (0 : Fin 1))) 0 := by
  simp only [← ix3_eq_valueIdx, ← ix4_eq_valueIdx]
  pointwise [k0_pay4]

/-! ## The core -/

/-- The sum over the neighbours inside the block, less six times the entry. -/
theorem pay7_apply (v : S32x32x32.Idx → EReal) (i j k : Fin 32) :
    k0_pay7 (F := Ideal) v (ValueIdx.ix3 i j k)
      = (if h : i.val < 1 then 0 else v (ValueIdx.ix3 (⟨i.val - 1, by omega⟩ : Fin 32) j k))
        + (if h : i.val < 31 then v (ValueIdx.ix3 (⟨1 + i.val, by omega⟩ : Fin 32) j k) else 0)
        + (if h : j.val < 1 then 0 else v (ValueIdx.ix3 i (⟨j.val - 1, by omega⟩ : Fin 32) k))
        + (if h : j.val < 31 then v (ValueIdx.ix3 i (⟨1 + j.val, by omega⟩ : Fin 32) k) else 0)
        + (if h : k.val < 1 then 0 else v (ValueIdx.ix3 i j (⟨k.val - 1, by omega⟩ : Fin 32)))
        + (if h : k.val < 31 then v (ValueIdx.ix3 i j (⟨1 + k.val, by omega⟩ : Fin 32)) else 0)
        - Ideal.ofBits .f32 0x40C00000#32 * v (ValueIdx.ix3 i j k) := by
  simp only [← ix3_eq_valueIdx]
  pointwise [k0_pay7]

/-! ## Where an entry lies -/

/-- The tests of an entry's place in the whole array, along x, y and z. -/
theorem low_x : ∀ (c : Dev nD) (i : Fin 32), IntOp.cmpi .sgt (IntOp.addi (BitVec.ofNat 32 i.val) (Scalar.muli (w2 c) 32#32)) 0#32 = BitVec.ofBool (decide (0 < 32 * mx c + i.val)) := by
  decide +kernel
theorem high_x : ∀ (c : Dev nD) (i : Fin 32), IntOp.cmpi .slt (IntOp.addi (BitVec.ofNat 32 i.val) (Scalar.muli (w2 c) 32#32)) 63#32 = BitVec.ofBool (decide (32 * mx c + i.val < 63)) := by
  decide +kernel
theorem low_y : ∀ (c : Dev nD) (i : Fin 32), IntOp.cmpi .sgt (IntOp.addi (BitVec.ofNat 32 i.val) (Scalar.muli (w5 c) 32#32)) 0#32 = BitVec.ofBool (decide (0 < 32 * my c + i.val)) := by
  decide +kernel
theorem high_y : ∀ (c : Dev nD) (i : Fin 32), IntOp.cmpi .slt (IntOp.addi (BitVec.ofNat 32 i.val) (Scalar.muli (w5 c) 32#32)) 63#32 = BitVec.ofBool (decide (32 * my c + i.val < 63)) := by
  decide +kernel
theorem low_z : ∀ (c : Dev nD) (i : Fin 32), IntOp.cmpi .sgt (IntOp.addi (BitVec.ofNat 32 i.val) (Scalar.muli (w8 c) 32#32)) 0#32 = BitVec.ofBool (decide (0 < 32 * mz c + i.val)) := by
  decide +kernel
theorem high_z : ∀ (c : Dev nD) (i : Fin 32), IntOp.cmpi .slt (IntOp.addi (BitVec.ofNat 32 i.val) (Scalar.muli (w8 c) 32#32)) 127#32 = BitVec.ofBool (decide (32 * mz c + i.val < 127)) := by
  decide +kernel

/-- Two tests joined. -/
theorem andi_ofBool (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

/-- A choice by a test. -/
theorem select_ofBool {α : Type} (p : Prop) [Decidable p] (x y : α) : Scalar.select (BitVec.ofBool (decide p)) x y = if p then x else y := by
  by_cases hp : p <;> simp [hp, Scalar.select]

/-- The core is kept off the outer boundary. -/
theorem pay10_apply (c : Dev nD) (v : S32x32x32.Idx → EReal) (i j k : Fin 32) :
    k0_pay10 (F := Ideal) (w8 c) v (k0_pay8 (w2 c)) (k0_pay9 (w5 c)) (ValueIdx.ix3 i j k)
      = if (((((0 < 32 * mx c + i.val) ∧ 32 * mx c + i.val < 63) ∧ 0 < 32 * my c + j.val) ∧ 32 * my c + j.val < 63) ∧ 0 < 32 * mz c + k.val)
            ∧ 32 * mz c + k.val < 127 then v (ValueIdx.ix3 i j k) else 0 := by
  simp only [← ix3_eq_valueIdx]
  pointwise [k0_pay10, k0_pay8, k0_pay9]
  rw [low_x, high_x, low_y, high_y, low_z, high_z]
  simp only [andi_ofBool, select_ofBool]

/-- The entries of a face that are off the outer boundary. -/
theorem mask_x (c : Dev nD) (i : Fin 1) (j k : Fin 32) :
    k0_pay14 (k0_pay12 (w5 c) (w8 c)) (k0_pay13 (w8 c)) (ValueIdx.ix3 i j k)
      = BitVec.ofBool (decide (((0 < 32 * my c + j.val ∧ 32 * my c + j.val < 63) ∧ 0 < 32 * mz c + k.val) ∧ 32 * mz c + k.val < 127)) := by
  simp only [← ix3_eq_valueIdx]
  pointwise [k0_pay14, k0_pay12, k0_pay13, k0_pay11]
  rw [low_y, high_y, low_z, high_z]
  simp only [andi_ofBool]

theorem mask_y (c : Dev nD) (i : Fin 32) (j : Fin 1) (k : Fin 32) :
    k0_pay15 (w2 c) (w8 c) (ValueIdx.ix3 i j k)
      = BitVec.ofBool (decide (((0 < 32 * mx c + i.val ∧ 32 * mx c + i.val < 63) ∧ 0 < 32 * mz c + k.val) ∧ 32 * mz c + k.val < 127)) := by
  simp only [← ix3_eq_valueIdx]
  pointwise [k0_pay15]
  rw [low_x, high_x, low_z, high_z]
  simp only [andi_ofBool]

theorem mask_z (c : Dev nD) (i j : Fin 32) (k : Fin 1) :
    k0_pay16 (w2 c) (w5 c) (ValueIdx.ix3 i j k)
      = BitVec.ofBool (decide (((0 < 32 * mx c + i.val ∧ 32 * mx c + i.val < 63) ∧ 0 < 32 * my c + j.val) ∧ 32 * my c + j.val < 63)) := by
  simp only [← ix3_eq_valueIdx]
  pointwise [k0_pay16]
  rw [low_x, high_x, low_y, high_y]
  simp only [andi_ofBool]

end Cert.Halo

end
-- ==== Proof.FaceSteps.lean ====
/-
The six steps that work the neighbours' faces into a block, entry by entry, on extended reals.
-/
module

public import proofs.«01_k».proof.Proof.Faces
public import proofs.«01_k».proof.Proof.Payload

@[expose] public section

noncomputable section

namespace Cert.Halo

open Cert.KernelIdeal Cert.KernelIdeal.Gen
open Idealize.ShloMosaic hiding ix3 ix4 eq_ix3 eq_ix4
open Idealize.ShloMosaic.TcCoe
open Idealize.ShloMosaic.ValueIdx

section
variable {F : FTy → Type} [FloatOps F]

/-- A step at an entry of its box. -/
theorem fstep_at {b : Prop} [Decidable b] (hb : b) (ro : Rect S32x32x32) (w : (ro.shape.Idx → Elt F .f32) → (ro.shape.Idx → Elt F .f32))
    (o : S32x32x32.Idx → Elt F .f32) (y : ro.shape.Idx) : fstep b ro w o (ro.emb y) = w (fun x => o (ro.emb x)) y := by
  unfold fstep
  rw [if_pos hb]
  exact View.write_emb_of_mem (Val := Elt F) (v := oM.access ro) o _ (Finset.mem_univ y)

/-- A step that is not taken, or at an entry outside its box. -/
theorem fstep_off {b : Prop} [Decidable b] (ro : Rect S32x32x32) (w : (ro.shape.Idx → Elt F .f32) → (ro.shape.Idx → Elt F .f32))
    (o : S32x32x32.Idx → Elt F .f32) (i : S32x32x32.Idx) (h : b → i ∉ ro.set) : fstep b ro w o i = o i := by
  unfold fstep
  by_cases hb : b
  · rw [if_pos hb]
    refine View.write_of_not_mem (Val := Elt F) (v := oM.access ro) o _ _ ?_
    rw [View.setOn_univ, show (oM.access ro).set = ro.set from View.set_slice_whole cc0_stg1_0 ro]
    exact h hb
  · rw [if_neg hb]
end

variable (m : (ℓ : Loc nD τ sig) → Buf (Elt Ideal) ℓ) (ρ : Dev nD → PrngReg)

/-- The entry of device `n`'s block, as an extended real. -/
abbrev Xv (n : Dev nD) (i : S32x32x32.Idx) : EReal := X m ρ n i

/-- A choice that requires more than its test. -/
theorem ite_of_and {p q : Prop} [Decidable p] [Decidable q] {x : EReal} (hp : p) :
    (if q then x else 0) = if p ∧ q then x else 0 := by
  by_cases hq : q
  · rw [if_pos hq, if_pos ⟨hp, hq⟩]
  · rw [if_neg hq, if_neg fun h => hq h.2]

theorem stepX0_apply (c : Dev nD) (o : S32x32x32.Idx → EReal) (i j k : Fin 32) :
    stepX0 m ρ c o (ix3 i j k) = o (ix3 i j k)
      + if (mx c = 1 ∧ i.val = 0) ∧ ((0 < 32 * my c + j.val ∧ 32 * my c + j.val < 63) ∧ 0 < 32 * mz c + k.val) ∧ 32 * mz c + k.val < 127
        then Xv m ρ (nbr c 0) (ix3 (edge (mx (nbr c 0))) j k) else 0 := by
  unfold stepX0
  by_cases h : mx c = 1 ∧ i.val = 0
  · have e : bX0.emb (ix3 (0 : Fin 1) j k) = ix3 i j k := by
      rw [box_emb (p := 0) (q := 0) (r := 0) rfl inb_S32x32x32_S1x32x32_0_0_0 (0 : Fin 1) j k (by decide) (by omega) (by omega)]
      congr 1 <;> exact Fin.ext (by simp [h.2])
    rw [← e, fstep_at h.1, pay17_apply, show maskX c (ix3 (0 : Fin 1) j k) = _ from mask_x c (0 : Fin 1) j k, select_ofBool, ite_of_and h]
    congr 2
    exact congrArg (HX m ρ c) (slab_emb (k := 0) (by decide) rfl inb_S2x1x32x32_S1x1x32x32_0_0_0_0 (0 : Fin 1) (0 : Fin 1) j k)
  · rw [if_neg fun g => h g.1, add_zero]
    refine fstep_off _ _ _ _ fun hb hi => h ⟨hb, ?_⟩
    have := ((mem_box rfl inb_S32x32x32_S1x32x32_0_0_0 _).mp hi).1
    have : i.val < 0 + 1 := this.2
    omega

theorem stepX1_apply (c : Dev nD) (o : S32x32x32.Idx → EReal) (i j k : Fin 32) :
    stepX1 m ρ c o (ix3 i j k) = o (ix3 i j k)
      + if (mx c = 0 ∧ i.val = 31) ∧ ((0 < 32 * my c + j.val ∧ 32 * my c + j.val < 63) ∧ 0 < 32 * mz c + k.val) ∧ 32 * mz c + k.val < 127
        then Xv m ρ (nbr c 0) (ix3 (edge (mx (nbr c 0))) j k) else 0 := by
  unfold stepX1
  by_cases h : mx c = 0 ∧ i.val = 31
  · have e : bX1.emb (ix3 (0 : Fin 1) j k) = ix3 i j k := by
      rw [box_emb (p := 31) (q := 0) (r := 0) rfl inb_S32x32x32_S1x32x32_31_0_0 (0 : Fin 1) j k (by decide) (by omega) (by omega)]
      congr 1 <;> exact Fin.ext (by simp [h.2])
    rw [← e, fstep_at h.1, pay18_apply, show maskX c (ix3 (0 : Fin 1) j k) = _ from mask_x c (0 : Fin 1) j k, select_ofBool, ite_of_and h]
    congr 2
    exact congrArg (HX m ρ c) (slab_emb (k := 1) (by decide) rfl inb_S2x1x32x32_S1x1x32x32_1_0_0_0 (0 : Fin 1) (0 : Fin 1) j k)
  · rw [if_neg fun g => h g.1, add_zero]
    refine fstep_off _ _ _ _ fun hb hi => h ⟨hb, ?_⟩
    have := ((mem_box rfl inb_S32x32x32_S1x32x32_31_0_0 _).mp hi).1
    have : 31 ≤ i.val := this.1
    omega

theorem stepY0_apply (c : Dev nD) (o : S32x32x32.Idx → EReal) (i j k : Fin 32) :
    stepY0 m ρ c o (ix3 i j k) = o (ix3 i j k)
      + if (my c = 1 ∧ j.val = 0) ∧ ((0 < 32 * mx c + i.val ∧ 32 * mx c + i.val < 63) ∧ 0 < 32 * mz c + k.val) ∧ 32 * mz c + k.val < 127
        then Xv m ρ (nbr c 1) (ix3 i (edge (my (nbr c 1))) k) else 0 := by
  unfold stepY0
  by_cases h : my c = 1 ∧ j.val = 0
  · have e : bY0.emb (ix3 i (0 : Fin 1) k) = ix3 i j k := by
      rw [box_emb (p := 0) (q := 0) (r := 0) rfl inb_S32x32x32_S32x1x32_0_0_0 i (0 : Fin 1) k (by omega) (by decide) (by omega)]
      congr 1 <;> exact Fin.ext (by simp [h.2])
    rw [← e, fstep_at h.1, pay1_apply, show maskY c (ix3 i (0 : Fin 1) k) = _ from mask_y c i (0 : Fin 1) k, select_ofBool, ite_of_and h]
    congr 2
    exact congrArg (HY m ρ c) (slab_emb (k := 0) (by decide) rfl inb_S2x32x1x32_S1x32x1x32_0_0_0_0 (0 : Fin 1) i (0 : Fin 1) k)
  · rw [if_neg fun g => h g.1, add_zero]
    refine fstep_off _ _ _ _ fun hb hi => h ⟨hb, ?_⟩
    have := ((mem_box rfl inb_S32x32x32_S32x1x32_0_0_0 _).mp hi).2.1
    have : j.val < 0 + 1 := this.2
    omega

theorem stepY1_apply (c : Dev nD) (o : S32x32x32.Idx → EReal) (i j k : Fin 32) :
    stepY1 m ρ c o (ix3 i j k) = o (ix3 i j k)
      + if (my c = 0 ∧ j.val = 31) ∧ ((0 < 32 * mx c + i.val ∧ 32 * mx c + i.val < 63) ∧ 0 < 32 * mz c + k.val) ∧ 32 * mz c + k.val < 127
        then Xv m ρ (nbr c 1) (ix3 i (edge (my (nbr c 1))) k) else 0 := by
  unfold stepY1
  by_cases h : my c = 0 ∧ j.val = 31
  · have e : bY1.emb (ix3 i (0 : Fin 1) k) = ix3 i j k := by
      rw [box_emb (p := 0) (q := 31) (r := 0) rfl inb_S32x32x32_S32x1x32_0_31_0 i (0 : Fin 1) k (by omega) (by decide) (by omega)]
      congr 1 <;> exact Fin.ext (by simp [h.2])
    rw [← e, fstep_at h.1, pay2_apply, show maskY c (ix3 i (0 : Fin 1) k) = _ from mask_y c i (0 : Fin 1) k, select_ofBool, ite_of_and h]
    congr 2
    exact congrArg (HY m ρ c) (slab_emb (k := 1) (by decide) rfl inb_S2x32x1x32_S1x32x1x32_1_0_0_0 (0 : Fin 1) i (0 : Fin 1) k)
  · rw [if_neg fun g => h g.1, add_zero]
    refine fstep_off _ _ _ _ fun hb hi => h ⟨hb, ?_⟩
    have := ((mem_box rfl inb_S32x32x32_S32x1x32_0_31_0 _).mp hi).2.1
    have : 31 ≤ j.val := this.1
    omega

theorem stepZ0_apply (c : Dev nD) (o : S32x32x32.Idx → EReal) (i j k : Fin 32) :
    stepZ0 m ρ c o (ix3 i j k) = o (ix3 i j k)
      + if (0 < mz c ∧ k.val = 0) ∧ ((0 < 32 * mx c + i.val ∧ 32 * mx c + i.val < 63) ∧ 0 < 32 * my c + j.val) ∧ 32 * my c + j.val < 63
        then Xv m ρ (nbr c 2) (ix3 i j (edge 0)) else 0 := by
  unfold stepZ0
  by_cases h : 0 < mz c ∧ k.val = 0
  · have e : bZ0.emb (ix3 i j (0 : Fin 1)) = ix3 i j k := by
      rw [box_emb (p := 0) (q := 0) (r := 0) rfl inb_S32x32x32_S32x32x1_0_0_0 i j (0 : Fin 1) (by omega) (by omega) (by decide)]
      congr 1 <;> exact Fin.ext (by simp [h.2])
    rw [← e, fstep_at (b := Has c 2) h.1, pay3_apply, show maskZ c (ix3 i j (0 : Fin 1)) = _ from mask_z c i j (0 : Fin 1), select_ofBool, ite_of_and h]
    congr 2
    refine (congrArg (HZ m ρ c) (slab_emb (k := 0) (by decide) rfl inb_S2x32x32x1_S1x32x32x1_0_0_0_0 (0 : Fin 1) i j (0 : Fin 1))).trans ?_
    exact if_pos rfl
  · rw [if_neg fun g => h g.1, add_zero]
    refine fstep_off _ _ _ _ fun hb hi => h ⟨hb, ?_⟩
    have := ((mem_box rfl inb_S32x32x32_S32x32x1_0_0_0 _).mp hi).2.2
    have : k.val < 0 + 1 := this.2
    omega

theorem stepZ1_apply (c : Dev nD) (o : S32x32x32.Idx → EReal) (i j k : Fin 32) :
    stepZ1 m ρ c o (ix3 i j k) = o (ix3 i j k)
      + if (mz c < 3 ∧ k.val = 31) ∧ ((0 < 32 * mx c + i.val ∧ 32 * mx c + i.val < 63) ∧ 0 < 32 * my c + j.val) ∧ 32 * my c + j.val < 63
        then Xv m ρ (nbr c 3) (ix3 i j (edge 1)) else 0 := by
  unfold stepZ1
  by_cases h : mz c < 3 ∧ k.val = 31
  · have e : bZ1.emb (ix3 i j (0 : Fin 1)) = ix3 i j k := by
      rw [box_emb (p := 0) (q := 0) (r := 31) rfl inb_S32x32x32_S32x32x1_0_0_31 i j (0 : Fin 1) (by omega) (by omega) (by decide)]
      congr 1 <;> exact Fin.ext (by simp [h.2])
    rw [← e, fstep_at (b := Has c 3) h.1, pay4_apply, show maskZ c (ix3 i j (0 : Fin 1)) = _ from mask_z c i j (0 : Fin 1), select_ofBool, ite_of_and h]
    congr 2
    refine (congrArg (HZ m ρ c) (slab_emb (k := 1) (by decide) rfl inb_S2x32x32x1_S1x32x32x1_1_0_0_0 (0 : Fin 1) i j (0 : Fin 1))).trans ?_
    exact if_neg (by show ¬ ((1 : Fin 2) : ℕ) = 0; decide)
  · rw [if_neg fun g => h g.1, add_zero]
    refine fstep_off _ _ _ _ fun hb hi => h ⟨hb, ?_⟩
    have := ((mem_box rfl inb_S32x32x32_S32x32x1_0_0_31 _).mp hi).2.2
    have : 31 ≤ k.val := this.1
    omega

end Cert.Halo

end
-- ==== Proof.Reference.lean ====
/-
The reference's result, entry by entry: the sum of the six neighbours less six times the entry itself where the entry is
not on the outer boundary, zero on the boundary.
-/
module

public import proofs.«01_k».proof.Proof.Gen.ReferenceIdeal.Run
public import Idealize.ShloMosaic.Lib.Routing.OpsSet
public import Idealize.ShloMosaic.Lib.IdealHost

@[expose] public section

noncomputable section

namespace Cert.Halo

open Cert.ReferenceIdeal Cert.ReferenceIdeal.Gen
open Idealize.ShloMosaic Idealize.ShloMosaic.Routing
open Idealize.ShloMosaic.ValueIdx

/-- The factor of the entry itself. -/
abbrev six : EReal := Ideal.ofBits .f32 0x40C00000#32

/-- The entry of the whole array at `(p, q, r)`; zero for places outside. -/
def entry (u : S64x64x128.Idx → EReal) (p q r : ℕ) : EReal :=
  if h : p < 64 ∧ q < 64 ∧ r < 128 then u (ix3 (⟨p, h.1⟩ : Fin 64) (⟨q, h.2.1⟩ : Fin 64) (⟨r, h.2.2⟩ : Fin 128)) else 0

/-- A place that is not on the outer boundary. -/
abbrev Inner (p q r : ℕ) : Prop := (0 < p ∧ p < 63) ∧ (0 < q ∧ q < 63) ∧ (0 < r ∧ r < 127)

/-- The sum of the six neighbours less six times the entry. -/
def lap (u : S64x64x128.Idx → EReal) (p q r : ℕ) : EReal :=
  entry u (p - 1) q r + entry u (p + 1) q r + entry u p (q - 1) r + entry u p (q + 1) r + entry u p q (r - 1) + entry u p q (r + 1) - six * entry u p q r

/-- A place inside the array. -/
theorem entry_eq (u : S64x64x128.Idx → EReal) (p q r : ℕ) (hp : p < 64) (hq : q < 64) (hr : r < 128) :
    entry u p q r = u (ix3 (⟨p, hp⟩ : Fin 64) (⟨q, hq⟩ : Fin 64) (⟨r, hr⟩ : Fin 128)) := dif_pos ⟨hp, hq, hr⟩

/-- A box of the array, cut out at an offset. -/
theorem slice_apply (u : S64x64x128.Idx → EReal) (a b d : ℕ) (h : S64x64x128.Slices ![a, b, d] S62x62x126) (i : S62x62x126.Idx) :
    extractStridedSlice S62x62x126 ![a, b, d] u h i = entry u (a + (i 0).val) (b + (i 1).val) (d + (i 2).val) := by
  have h0 : a + (i 0).val < 64 := Nat.lt_of_lt_of_le (Nat.add_lt_add_left (i 0).isLt _) (h.2 0)
  have h1 : b + (i 1).val < 64 := Nat.lt_of_lt_of_le (Nat.add_lt_add_left (i 1).isLt _) (h.2 1)
  have h2 : d + (i 2).val < 128 := Nat.lt_of_lt_of_le (Nat.add_lt_add_left (i 2).isLt _) (h.2 2)
  rw [entry_eq u _ _ _ h0 h1 h2]
  refine congrArg u (funext fun x => ?_)
  match x with
  | ⟨0, _⟩ => rfl
  | ⟨1, _⟩ => rfl
  | ⟨2, _⟩ => rfl

/-- The values written into the interior. -/
def inside (u : S64x64x128.Idx → EReal) : S62x62x126.Idx → EReal :=
  subf (F := Ideal) (φ := .f32) (addf (addf (addf (addf (addf (extractStridedSlice S62x62x126 ![0, 1, 1] u Facts₀.slices_S64x64x128_S62x62x126_0_1_1)
    (extractStridedSlice S62x62x126 ![2, 1, 1] u Facts₀.slices_S64x64x128_S62x62x126_2_1_1)) (extractStridedSlice S62x62x126 ![1, 0, 1] u Facts₀.slices_S64x64x128_S62x62x126_1_0_1))
    (extractStridedSlice S62x62x126 ![1, 2, 1] u Facts₀.slices_S64x64x128_S62x62x126_1_2_1)) (extractStridedSlice S62x62x126 ![1, 1, 0] u Facts₀.slices_S64x64x128_S62x62x126_1_1_0))
    (extractStridedSlice S62x62x126 ![1, 1, 2] u Facts₀.slices_S64x64x128_S62x62x126_1_1_2))
    (mulf (broadcastInDim S62x62x126 ![] Facts₀.bcast_S_S62x62x126 (constant S_ .f32 0x40C00000#32)) (extractStridedSlice S62x62x126 ![1, 1, 1] u Facts₀.slices_S64x64x128_S62x62x126_1_1_1))

/-- They are the sums around the entries one place further along each axis. -/
theorem inside_apply (u : S64x64x128.Idx → EReal) (i : S62x62x126.Idx) :
    inside u i = lap u ((i 0).val + 1) ((i 1).val + 1) ((i 2).val + 1) := by
  show extractStridedSlice S62x62x126 ![0, 1, 1] u _ i + extractStridedSlice S62x62x126 ![2, 1, 1] u _ i + extractStridedSlice S62x62x126 ![1, 0, 1] u _ i
      + extractStridedSlice S62x62x126 ![1, 2, 1] u _ i + extractStridedSlice S62x62x126 ![1, 1, 0] u _ i + extractStridedSlice S62x62x126 ![1, 1, 2] u _ i
      - six * extractStridedSlice S62x62x126 ![1, 1, 1] u _ i = _
  simp only [slice_apply]
  unfold lap
  simp only [Nat.add_sub_cancel, Nat.zero_add, Nat.add_comm _ 1, ← Nat.add_assoc, Nat.reduceAdd, Nat.add_sub_cancel_left]

/-- The three start places of the interior: one along each axis. -/
def starts : S3.Idx → BitVec 32 :=
  concatenate S3 0 [⟨S1, broadcastInDim S1 ![] Facts₀.bcast_S_S1 (constantI S_ 32 1#32)⟩, ⟨S1, broadcastInDim S1 ![] Facts₀.bcast_S_S1 (constantI S_ 32 1#32)⟩,
    ⟨S1, broadcastInDim S1 ![] Facts₀.bcast_S_S1 (constantI S_ 32 1#32)⟩] Facts₀.concatenates_S1_S1_S1_S3_d0

theorem starts_apply (k : S3.Idx) : starts k = 1#32 := by
  obtain ⟨x, rfl⟩ : ∃ x : Fin 3, k = ix1 x := ⟨k 0, eq_ix1 k⟩
  rcases (by decide : ∀ d : Fin 3, d = 0 ∨ d = 1 ∨ d = 2) x with rfl | rfl | rfl <;> rfl

/-- Where the interior value at `i` lands. -/
theorem lands (i : S62x62x126.Idx) (j : S64x64x128.Idx) :
    scatter_S64x64x128_S3_S62x62x126_012_n_012_0.resultIdx? i starts = some j
      ↔ (i 0).val + 1 = (j 0).val ∧ (i 1).val + 1 = (j 1).val ∧ (i 2).val + 1 = (j 2).val := by
  have hs : ∀ a, scatter_S64x64x128_S3_S62x62x126_012_n_012_0.start i starts a = 1 := fun a => by
    unfold ScatterDims.start
    rw [dif_pos (by revert a; decide), starts_apply]; rfl
  have h0 : scatter_S64x64x128_S3_S62x62x126_012_n_012_0.window i (0 : Fin 3) = (i 0).val := rfl
  have h1 : scatter_S64x64x128_S3_S62x62x126_012_n_012_0.window i (1 : Fin 3) = (i 1).val := rfl
  have h2 : scatter_S64x64x128_S3_S62x62x126_012_n_012_0.window i (2 : Fin 3) = (i 2).val := rfl
  rw [resultIdx?_eq_some]
  constructor
  · intro h
    have e0 := h (0 : Fin 3); have e1 := h (1 : Fin 3); have e2 := h (2 : Fin 3)
    rw [hs, h0] at e0; rw [hs, h1] at e1; rw [hs, h2] at e2
    omega
  · rintro ⟨e0, e1, e2⟩ a
    rw [hs]
    match a with
    | ⟨0, _⟩ => rw [show (⟨0, _⟩ : Fin 3) = 0 from rfl, h0]; omega
    | ⟨1, _⟩ => rw [show (⟨1, _⟩ : Fin 3) = 1 from rfl, h1]; omega
    | ⟨2, _⟩ => rw [show (⟨2, _⟩ : Fin 3) = 2 from rfl, h2]; omega

/-- The reference's result. -/
def refVal (u : S64x64x128.Idx → EReal) : S64x64x128.Idx → EReal :=
  Host.scatter scatter_S64x64x128_S3_S62x62x126_012_n_012_0 (fun _ b => b)
    (broadcastInDim S64x64x128 ![] Facts₀.bcast_S_S64x64x128 (constant (F := Ideal) S_ .f32 0x00000000#32)) starts (inside u)

/-- It is the sum around an entry in the interior, zero on the boundary. -/
theorem refVal_apply (u : S64x64x128.Idx → EReal) (j : S64x64x128.Idx) :
    refVal u j = if Inner (j 0).val (j 1).val (j 2).val then lap u (j 0).val (j 1).val (j 2).val else 0 := by
  unfold refVal
  by_cases h : Inner (j 0).val (j 1).val (j 2).val
  · rw [if_pos h]
    refine scatter_set_hit _ _ _ _ _ _ (fun i hi => ?_)
      (ix3 (⟨(j 0).val - 1, by omega⟩ : Fin 62) (⟨(j 1).val - 1, by omega⟩ : Fin 62) (⟨(j 2).val - 1, by omega⟩ : Fin 126)) ((lands _ j).mpr ?_)
    · obtain ⟨e0, e1, e2⟩ := (lands i j).mp hi
      rw [inside_apply, e0, e1, e2]
    · exact ⟨Nat.sub_add_cancel h.1.1, Nat.sub_add_cancel h.2.1.1, Nat.sub_add_cancel h.2.2.1⟩
  · rw [if_neg h]
    refine (scatter_set_miss _ _ _ _ _ fun i hi => h ?_).trans Ideal.ofBits_zero_f32
    obtain ⟨e0, e1, e2⟩ := (lands i j).mp hi
    have h0 : (i 0).val < 62 := (i 0).isLt
    have h1 : (i 1).val < 62 := (i 1).isLt
    have h2 : (i 2).val < 126 := (i 2).isLt
    omega

end Cert.Halo

end
-- ==== Proof.Value.lean ====
/-
The block each device computes, entry by entry: what the reference computes at the entry's place in the whole array.
-/
module

public import proofs.«01_k».proof.Proof.FaceSteps
public import proofs.«01_k».proof.Proof.Reference

@[expose] public section

noncomputable section

namespace Cert.Halo

open Cert.KernelIdeal Cert.KernelIdeal.Gen
open Idealize.ShloMosaic hiding ix3 ix4 eq_ix3 eq_ix4
open Idealize.ShloMosaic.TcCoe
open Idealize.ShloMosaic.ValueIdx

variable (m : (ℓ : Loc nD τ sig) → Buf (Elt Ideal) ℓ) (ρ : Dev nD → PrngReg)

/-- The blocks the devices hold are the blocks of a whole array `u`. -/
def Blocks (u : Cert.ReferenceIdeal.S64x64x128.Idx → EReal) : Prop :=
  ∀ (c : Dev nD) (i j k : Fin 32), Xv m ρ c (ix3 i j k) = entry u (32 * mx c + i.val) (32 * my c + j.val) (32 * mz c + k.val)

/-! ## Where the neighbours lie -/

theorem mz_lt : ∀ c : Dev nD, mz c < 4 := by decide
theorem nbr0_place : ∀ c : Dev nD, mx (nbr c 0) = 1 - mx c ∧ my (nbr c 0) = my c ∧ mz (nbr c 0) = mz c := by decide
theorem nbr1_place : ∀ c : Dev nD, mx (nbr c 1) = mx c ∧ my (nbr c 1) = 1 - my c ∧ mz (nbr c 1) = mz c := by decide
theorem nbr2_place : ∀ c : Dev nD, 0 < mz c → mx (nbr c 2) = mx c ∧ my (nbr c 2) = my c ∧ mz (nbr c 2) = mz c - 1 := by decide
theorem nbr3_place : ∀ c : Dev nD, mz c < 3 → mx (nbr c 3) = mx c ∧ my (nbr c 3) = my c ∧ mz (nbr c 3) = mz c + 1 := by decide

/-- The entry at a place written in another way. -/
theorem entry_congr (u : Cert.ReferenceIdeal.S64x64x128.Idx → EReal) {p q r p' q' r' : ℕ} (hp : p = p') (hq : q = q') (hr : r = r') :
    entry u p q r = entry u p' q' r' := by
  rw [hp, hq, hr]

/-! ## Sums -/

/-- Of two terms that are there under tests exactly one of which holds, and that both are `x` where they are there, the sum is `x`. -/
theorem one_of {p q : Prop} [Decidable p] [Decidable q] {a : ¬ p → EReal} {b x : EReal} (hpq : p ↔ q) (ha : ∀ h, a h = x) (hb : q → b = x) :
    (if h : p then 0 else a h) + (if q then b else 0) = x := by
  by_cases h : p
  · rw [dif_pos h, if_pos (hpq.mp h), zero_add, hb (hpq.mp h)]
  · rw [dif_neg h, if_neg fun g => h (hpq.mpr g), add_zero, ha h]

/-- The same with the first test turned round. -/
theorem one_of' {p q : Prop} [Decidable p] [Decidable q] {a : p → EReal} {b x : EReal} (hpq : ¬ p ↔ q) (ha : ∀ h, a h = x) (hb : q → b = x) :
    (if h : p then a h else 0) + (if q then b else 0) = x := by
  by_cases h : p
  · rw [dif_pos h, if_neg fun g => hpq.mpr g h, add_zero, ha h]
  · rw [dif_neg h, if_pos (hpq.mp h), zero_add, hb (hpq.mp h)]

/-- Six terms, each in two parts, less a seventh: the order of summing does not matter. -/
theorem sum_regroup (a0 a1 a2 a3 a4 a5 x b0 b1 b2 b3 b4 b5 : EReal) :
    a0 + a1 + a2 + a3 + a4 + a5 - x + b0 + b1 + b2 + b3 + b4 + b5
      = (a0 + b0) + (a1 + b1) + (a2 + b2) + (a3 + b3) + (a4 + b4) + (a5 + b5) - x := by
  rw [sub_eq_add_neg, sub_eq_add_neg]
  generalize -x = y
  abel

/-! ## The result -/

/-- The block of the result of device `c`: the reference's value at each entry's place. -/
theorem out_apply {u : Cert.ReferenceIdeal.S64x64x128.Idx → EReal} (hX : Blocks m ρ u) (c : Dev nD) (i j k : Fin 32) :
    out m ρ c (ix3 i j k)
      = if Inner (32 * mx c + i.val) (32 * my c + j.val) (32 * mz c + k.val)
        then lap u (32 * mx c + i.val) (32 * my c + j.val) (32 * mz c + k.val) else 0 := by
  have hx := mx_lt c; have hy := my_lt c; have hz := mz_lt c
  have n0 := nbr0_place c; have n1 := nbr1_place c; have n2 := nbr2_place c; have n3 := nbr3_place c
  have hi := i.isLt; have hj := j.isLt; have hk := k.isLt
  unfold out
  refine (stepZ1_apply m ρ c _ i j k).trans ?_
  rw [stepZ0_apply m ρ c, stepY1_apply m ρ c, stepY0_apply m ρ c, stepX1_apply m ρ c, stepX0_apply m ρ c]
  rw [show base m ρ c (ix3 i j k) = _ from pay10_apply c (core m ρ c) i j k]
  by_cases hin : Inner (32 * mx c + i.val) (32 * my c + j.val) (32 * mz c + k.val)
  · rw [if_pos hin, if_pos (by unfold Inner at hin; omega), show core m ρ c (ix3 i j k) = _ from pay7_apply (Xv m ρ c) i j k, sum_regroup]
    unfold Inner at hin
    unfold lap
    refine congrArg₂ (· - ·) (congrArg₂ (· + ·) (congrArg₂ (· + ·) (congrArg₂ (· + ·) (congrArg₂ (· + ·) (congrArg₂ (· + ·) ?_ ?_) ?_) ?_) ?_) ?_)
      (congrArg (six * ·) (hX c i j k))
    · refine one_of (by omega) (fun h => (hX _ _ _ _).trans ?_) (fun h => (hX _ _ _ _).trans ?_)
      · refine entry_congr u ?_ rfl rfl
        show 32 * mx c + (i.val - 1) = _; omega
      · rw [n0.2.1, n0.2.2]
        refine entry_congr u ?_ rfl rfl
        show 32 * mx (nbr c 0) + (31 - 31 * mx (nbr c 0)) = _; rw [n0.1]; omega
    · refine one_of' (by omega) (fun h => (hX _ _ _ _).trans ?_) (fun h => (hX _ _ _ _).trans ?_)
      · refine entry_congr u ?_ rfl rfl
        show 32 * mx c + (1 + i.val) = _; omega
      · rw [n0.2.1, n0.2.2]
        refine entry_congr u ?_ rfl rfl
        show 32 * mx (nbr c 0) + (31 - 31 * mx (nbr c 0)) = _; rw [n0.1]; omega
    · refine one_of (by omega) (fun h => (hX _ _ _ _).trans ?_) (fun h => (hX _ _ _ _).trans ?_)
      · refine entry_congr u rfl ?_ rfl
        show 32 * my c + (j.val - 1) = _; omega
      · rw [n1.1, n1.2.2]
        refine entry_congr u rfl ?_ rfl
        show 32 * my (nbr c 1) + (31 - 31 * my (nbr c 1)) = _; rw [n1.2.1]; omega
    · refine one_of' (by omega) (fun h => (hX _ _ _ _).trans ?_) (fun h => (hX _ _ _ _).trans ?_)
      · refine entry_congr u rfl ?_ rfl
        show 32 * my c + (1 + j.val) = _; omega
      · rw [n1.1, n1.2.2]
        refine entry_congr u rfl ?_ rfl
        show 32 * my (nbr c 1) + (31 - 31 * my (nbr c 1)) = _; rw [n1.2.1]; omega
    · refine one_of (by omega) (fun h => (hX _ _ _ _).trans ?_) (fun h => (hX _ _ _ _).trans ?_)
      · refine entry_congr u rfl rfl ?_
        show 32 * mz c + (k.val - 1) = _; omega
      · rw [(n2 h.1.1).1, (n2 h.1.1).2.1]
        refine entry_congr u rfl rfl ?_
        show 32 * mz (nbr c 2) + (31 - 31 * 0) = _; rw [(n2 h.1.1).2.2]; omega
    · refine one_of' (by omega) (fun h => (hX _ _ _ _).trans ?_) (fun h => (hX _ _ _ _).trans ?_)
      · refine entry_congr u rfl rfl ?_
        show 32 * mz c + (1 + k.val) = _; omega
      · rw [(n3 h.1.1).1, (n3 h.1.1).2.1]
        refine entry_congr u rfl rfl ?_
        show 32 * mz (nbr c 3) + (31 - 31 * 1) = _; rw [(n3 h.1.1).2.2]; omega
  · rw [if_neg hin]
    unfold Inner at hin
    rw [if_neg (by omega), if_neg (by omega), if_neg (by omega), if_neg (by omega), if_neg (by omega), if_neg (by omega), if_neg (by omega)]
    simp only [add_zero]

end Cert.Halo

end
-- ==== Proof.Equation.lean ====
/-
The claim that the sixteen blocks the devices compute are together the reference's result.
-/
module

public import proofs.«01_k».proof.Defs
public import proofs.«01_k».proof.Proof.Gen.Kernel
public import proofs.«01_k».proof.Proof.Gen.ReferenceIdeal.Run
public import proofs.«01_k».proof.Proof.Whole
public import proofs.«01_k».proof.Proof.Value

@[expose] public section

noncomputable section

namespace Cert.Halo

open Idealize.ShloMosaic hiding ix3 ix4 eq_ix3 eq_ix4
open Idealize.SL.Sem
open Idealize.ShloMosaic.ValueIdx

/-- The block of the whole array that device `c` holds. -/
abbrev share (u : (⟨3, ![64, 64, 128]⟩ : Shape).Idx → EReal) (c : Dev Cert.KernelIdeal.nD) : (⟨3, ![32, 32, 32]⟩ : Shape).Idx → EReal :=
  Layout.blockN ⟨3, ![32, 32, 32]⟩ ⟨3, ![64, 64, 128]⟩ (Layout.meshBlock [2, 2, 4] ![[0], [1], [2]] c) u

/-- The number of that block along each axis. -/
theorem share_x : ∀ c : Dev Cert.KernelIdeal.nD, Layout.meshLin [2, 2, 4] c.val [0] = mx c := by decide +kernel
theorem share_y : ∀ c : Dev Cert.KernelIdeal.nD, Layout.meshLin [2, 2, 4] c.val [1] = my c := by decide +kernel
theorem share_z : ∀ c : Dev Cert.KernelIdeal.nD, Layout.meshLin [2, 2, 4] c.val [2] = mz c := by decide +kernel

/-- The places of a block's entries in the whole array. -/
theorem inside_x (c : Dev Cert.KernelIdeal.nD) (i : Fin 32) : 32 * mx c + i.val < 64 := by have := mx_lt c; omega
theorem inside_y (c : Dev Cert.KernelIdeal.nD) (i : Fin 32) : 32 * my c + i.val < 64 := by have := my_lt c; omega
theorem inside_z (c : Dev Cert.KernelIdeal.nD) (i : Fin 32) : 32 * mz c + i.val < 128 := by have := mz_lt c; omega

/-- An entry of a block is the entry of the whole array at its place. -/
theorem share_apply (u : (⟨3, ![64, 64, 128]⟩ : Shape).Idx → EReal) (c : Dev Cert.KernelIdeal.nD) (i j k : Fin 32) :
    share u c (ix3 i j k) = u (ix3 (⟨32 * mx c + i.val, inside_x c i⟩ : Fin 64) (⟨32 * my c + j.val, inside_y c j⟩ : Fin 64) (⟨32 * mz c + k.val, inside_z c k⟩ : Fin 128)) := by
  refine congrArg u (funext fun b => Fin.ext ?_)
  match b with
  | ⟨0, _⟩ =>
    show Layout.meshLin [2, 2, 4] c.val [0] * 32 + i.val = 32 * mx c + i.val
    rw [share_x]; omega
  | ⟨1, _⟩ =>
    show Layout.meshLin [2, 2, 4] c.val [1] * 32 + j.val = 32 * my c + j.val
    rw [share_y]; omega
  | ⟨2, _⟩ =>
    show Layout.meshLin [2, 2, 4] c.val [2] * 32 + k.val = 32 * mz c + k.val
    rw [share_z]; omega

/-- If the devices hold the blocks of `u`, each computes its block of the reference's result on `u`. -/
theorem out_share (m : (ℓ : Loc Cert.KernelIdeal.nD Cert.KernelIdeal.τ Cert.KernelIdeal.sig) → Buf (Elt Ideal) ℓ) (ρ : Dev Cert.KernelIdeal.nD → PrngReg)
    (u : (⟨3, ![64, 64, 128]⟩ : Shape).Idx → EReal)
    (hu : ∀ c : Dev Cert.KernelIdeal.nD, m ((c.tc : Thread Cert.KernelIdeal.nD Cert.KernelIdeal.τ).loc Cert.KernelIdeal.main_arg0) = share u c)
    (c : Dev Cert.KernelIdeal.nD) : out m ρ c = share (refVal u) c := by
  have hX : Blocks m ρ u := fun c i j k => by
    rw [entry_eq u _ _ _ (inside_x c i) (inside_y c j) (inside_z c k), ← share_apply u c i j k, ← hu c]
    exact congrFun (X_eq m ρ c) (ix3 i j k)
  funext y
  obtain ⟨i, j, k, rfl⟩ : ∃ i j k : Fin 32, y = ix3 i j k := ⟨y 0, y 1, y 2, eq_ix3 y⟩
  rw [share_apply, refVal_apply]
  exact out_apply m ρ hX c i j k

/-- The kernel computes the reference's result. -/
theorem equation : Cert.algebraic_KernelIdeal_ReferenceIdeal := by
  intro m g m' g' _ hm
  refine ⟨refVal (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨?_, (h.1 c (0 : Fin 2)).trans (finalA_arg m g c)⟩) (run_main m g)
    exact (h.1 c (1 : Fin 2)).trans ((finalA_res m g c).trans (out_share m g _ hm c))
  · exact (θ_run (Cert.ReferenceIdeal.defs (F := Ideal)) _ _).mono (fun r h => h 0) (Cert.ReferenceIdeal.Value.run (F := Ideal) m' g')

end Cert.Halo

end
-- ==== Proof.lean ====
/-
The certificate: the kernel and the reference run to the end, keep their arguments and leave every semaphore at zero,
and on extended reals the kernel computes the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation

@[expose] public section

noncomputable section

namespace Cert.Proof

/-- All five claims. -/
theorem claim : Cert.Claim :=
  ⟨Cert.Kernel.Gen.facts, Cert.KernelIdeal.Gen.facts, Cert.ReferenceIdeal.Gen.facts,
    Cert.Halo.frame_kernel, Cert.Halo.frame_ideal, Cert.Halo.frame_reference, trivial, Cert.Halo.equation⟩

end Cert.Proof

end
